-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![1, 2048, 8, 128]⟩ ⟨4, ![1, 2048, 64, 128]⟩ 2 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 2048, 8, 128]⟩ ⟨4, ![1, 2048, 64, 128]⟩ 2 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v60) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x1024 : Shape := ⟨3, ![1, 512, 1024]⟩
abbrev S1024x1024 : Shape := ⟨2, ![1024, 1024]⟩
abbrev S1x2048x8x128 : Shape := ⟨4, ![1, 2048, 8, 128]⟩
abbrev S512x1024 : Shape := ⟨2, ![512, 1024]⟩
abbrev S2048x8x128 : Shape := ⟨3, ![2048, 8, 128]⟩
abbrev S14x64x1024 : Shape := ⟨3, ![14, 64, 1024]⟩
abbrev S14 : Shape := ⟨1, ![14]⟩
abbrev S_ : Shape := ⟨0, ![]⟩
abbrev S512x128 : Shape := ⟨2, ![512, 128]⟩
abbrev S2048x1x128 : Shape := ⟨3, ![2048, 1, 128]⟩
abbrev S2048x128 : Shape := ⟨2, ![2048, 128]⟩
abbrev S512x2048 : Shape := ⟨2, ![512, 2048]⟩
abbrev S512 : Shape := ⟨1, ![512]⟩
abbrev S512x1 : Shape := ⟨2, ![512, 1]⟩
abbrev S1 : Shape := ⟨1, ![1]⟩
abbrev S1x64x1024 : Shape := ⟨3, ![1, 64, 1024]⟩
abbrev S64x1024 : Shape := ⟨2, ![64, 1024]⟩

abbrev nBuf : Space → Nat
  | .hbm => 10
  | .vmem => 7
  | .smem => 0
  | _ => 0

abbrev bufTy : (tb : Table) → Fin (tcTables nBuf tb) → BufTy
  | .hbm, ⟨0, _⟩ => ⟨S1x512x1024, .bf16⟩
  | .hbm, ⟨1, _⟩ => ⟨S1024x1024, .bf16⟩
  | .hbm, ⟨2, _⟩ => ⟨S1x2048x8x128, .bf16⟩
  | .hbm, ⟨3, _⟩ => ⟨S1x2048x8x128, .bf16⟩
  | .hbm, ⟨4, _⟩ => ⟨S1024x1024, .bf16⟩
  | .hbm, ⟨5, _⟩ => ⟨S512x1024, .bf16⟩
  | .hbm, ⟨6, _⟩ => ⟨S2048x8x128, .bf16⟩
  | .hbm, ⟨7, _⟩ => ⟨S2048x8x128, .bf16⟩
  | .hbm, ⟨8, _⟩ => ⟨S512x1024, .f32⟩
  | .hbm, ⟨9, _⟩ => ⟨S1x512x1024, .f32⟩
  | .local _ .vmem, ⟨0, _⟩ => ⟨S512x1024, .bf16⟩
  | .local _ .vmem, ⟨1, _⟩ => ⟨S1024x1024, .bf16⟩
  | .local _ .vmem, ⟨2, _⟩ => ⟨S1024x1024, .bf16⟩
  | .local _ .vmem, ⟨3, _⟩ => ⟨S2048x8x128, .bf16⟩
  | .local _ .vmem, ⟨4, _⟩ => ⟨S2048x8x128, .bf16⟩
  | .local _ .vmem, ⟨5, _⟩ => ⟨S512x1024, .f32⟩
  | .local _ .vmem, ⟨6, _⟩ => ⟨S14x64x1024, .f32⟩
  | _, _ => ⟨S1x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 2 → Bool
  | ⟨0, _⟩ => false
  | ⟨1, _⟩ => true
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 2 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_off1 (d0 : Dev nD) (c0_i32_99 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v184 : BitVec 32 := Scalar.subi v2 c0_i32_99
  let c8_i32_100 : BitVec 32 := 8#32
  let v185 : BitVec 32 := Scalar.addi v184 c8_i32_100
  let c8_i32_101 : BitVec 32 := 8#32
  let v186 : BitVec 32 := Scalar.remsi v185 c8_i32_101
  let c64_i32 : BitVec 32 := 64#32
  let v191 : BitVec 32 := Scalar.muli v186 c64_i32
  let c0_i32_113 : BitVec 32 := 0#32
  ![v191.toNat, 0]
def k0_dev3 (d0 : Dev nD) : Nat :=
  let c0_i32_110 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_109 : BitVec 32 := 1#32
  let v192 : BitVec 32 := Scalar.muli v7 c1_i32_109
  let v193 : BitVec 32 := Scalar.addi c0_i32_110 v192
  v193.toNat
def k0_off2 (d0 : Dev nD) (c0_i32_102 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v187 : BitVec 32 := Scalar.subi v2 c0_i32_102
  let c1_i32_103 : BitVec 32 := 1#32
  let v188 : BitVec 32 := Scalar.subi v187 c1_i32_103
  let c8_i32_104 : BitVec 32 := 8#32
  let v189 : BitVec 32 := Scalar.addi v188 c8_i32_104
  let c8_i32_105 : BitVec 32 := 8#32
  let v190 : BitVec 32 := Scalar.remsi v189 c8_i32_105
  let c64_i32_129 : BitVec 32 := 64#32
  let v213 : BitVec 32 := Scalar.muli v190 c64_i32_129
  let v214 : Index := Scalar.indexCast v213
  let c0_130 : Index := 0#32
  ![v214.toNat, 0]
def k0_dev4 (d0 : Dev nD) : Nat :=
  let c0_i32_147 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_146 : BitVec 32 := 1#32
  let v230 : BitVec 32 := Scalar.muli v7 c1_i32_146
  let v231 : BitVec 32 := Scalar.addi c0_i32_147 v230
  v231.toNat
def k0_dev5 (d0 : Dev nD) : Nat :=
  let c0_i32_184 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_183 : BitVec 32 := 1#32
  let v268 : BitVec 32 := Scalar.muli v7 c1_i32_183
  let v269 : BitVec 32 := Scalar.addi c0_i32_184 v268
  v269.toNat
def k0_dev6 (d0 : Dev nD) : Nat :=
  let c0_i32_220 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_219 : BitVec 32 := 1#32
  let v306 : BitVec 32 := Scalar.muli v7 c1_i32_219
  let v307 : BitVec 32 := Scalar.addi c0_i32_220 v306
  v307.toNat
def k0_dev7 (d0 : Dev nD) : Nat :=
  let c0_i32_256 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_255 : BitVec 32 := 1#32
  let v344 : BitVec 32 := Scalar.muli v7 c1_i32_255
  let v345 : BitVec 32 := Scalar.addi c0_i32_256 v344
  v345.toNat
def k0_dev8 (d0 : Dev nD) : Nat :=
  let c0_i32_292 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_291 : BitVec 32 := 1#32
  let v382 : BitVec 32 := Scalar.muli v7 c1_i32_291
  let v383 : BitVec 32 := Scalar.addi c0_i32_292 v382
  v383.toNat
def k0_dev9 (d0 : Dev nD) : Nat :=
  let c0_i32_328 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_327 : BitVec 32 := 1#32
  let v420 : BitVec 32 := Scalar.muli v7 c1_i32_327
  let v421 : BitVec 32 := Scalar.addi c0_i32_328 v420
  v421.toNat
def k0_off3 (d0 : Dev nD) (c0_i32_354 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_353 : BitVec 32 := 1#32
  let v450 : BitVec 32 := Scalar.addi v2 c1_i32_353
  let v451 : BitVec 32 := Scalar.subi v450 c0_i32_354
  let c16_i32 : BitVec 32 := 16#32
  let v452 : BitVec 32 := Scalar.addi v451 c16_i32
  let c8_i32_355 : BitVec 32 := 8#32
  let v453 : BitVec 32 := Scalar.remsi v452 c8_i32_355
  let c64_i32_359 : BitVec 32 := 64#32
  let v457 : BitVec 32 := Scalar.muli v453 c64_i32_359
  let c0_i32_366 : BitVec 32 := 0#32
  ![v457.toNat, 0]
def k0_dev10 (d0 : Dev nD) : Nat :=
  let c0_i32_363 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_362 : BitVec 32 := 1#32
  let v458 : BitVec 32 := Scalar.muli v7 c1_i32_362
  let v459 : BitVec 32 := Scalar.addi c0_i32_363 v458
  v459.toNat
def k0_off4 (d0 : Dev nD) (c0_i32_356 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v454 : BitVec 32 := Scalar.subi v2 c0_i32_356
  let c16_i32_357 : BitVec 32 := 16#32
  let v455 : BitVec 32 := Scalar.addi v454 c16_i32_357
  let c8_i32_358 : BitVec 32 := 8#32
  let v456 : BitVec 32 := Scalar.remsi v455 c8_i32_358
  let c64_i32_385 : BitVec 32 := 64#32
  let v481 : BitVec 32 := Scalar.muli v456 c64_i32_385
  let v482 : Index := Scalar.indexCast v481
  let c0_386 : Index := 0#32
  ![v482.toNat, 0]
def k0_dev11 (d0 : Dev nD) : Nat :=
  let c0_i32_399 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_398 : BitVec 32 := 1#32
  let v492 : BitVec 32 := Scalar.muli v7 c1_i32_398
  let v493 : BitVec 32 := Scalar.addi c0_i32_399 v492
  v493.toNat
def k0_dev12 (d0 : Dev nD) : Nat :=
  let c0_i32_433 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_432 : BitVec 32 := 1#32
  let v526 : BitVec 32 := Scalar.muli v7 c1_i32_432
  let v527 : BitVec 32 := Scalar.addi c0_i32_433 v526
  v527.toNat
def k0_dev13 (d0 : Dev nD) : Nat :=
  let c0_i32_467 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_466 : BitVec 32 := 1#32
  let v560 : BitVec 32 := Scalar.muli v7 c1_i32_466
  let v561 : BitVec 32 := Scalar.addi c0_i32_467 v560
  v561.toNat
def k0_dev14 (d0 : Dev nD) : Nat :=
  let c0_i32_501 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_500 : BitVec 32 := 1#32
  let v594 : BitVec 32 := Scalar.muli v7 c1_i32_500
  let v595 : BitVec 32 := Scalar.addi c0_i32_501 v594
  v595.toNat
def k0_dev15 (d0 : Dev nD) : Nat :=
  let c0_i32_535 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_534 : BitVec 32 := 1#32
  let v628 : BitVec 32 := Scalar.muli v7 c1_i32_534
  let v629 : BitVec 32 := Scalar.addi c0_i32_535 v628
  v629.toNat
def k0_dev16 (d0 : Dev nD) : Nat :=
  let c0_i32_569 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_568 : BitVec 32 := 1#32
  let v662 : BitVec 32 := Scalar.muli v7 c1_i32_568
  let v663 : BitVec 32 := Scalar.addi c0_i32_569 v662
  v663.toNat
def k0_dev17 (d0 : Dev nD) : Nat :=
  let c0_i32_594_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_593_r0 : BitVec 32 := 1#32
  let v689_r0 : BitVec 32 := Scalar.muli v5 c1_i32_593_r0
  let v690_r0 : BitVec 32 := Scalar.addi c0_i32_594_r0 v689_r0
  v690_r0.toNat
def k0_dev18 (d0 : Dev nD) : Nat :=
  let c0_i32_597_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_596_r0 : BitVec 32 := 1#32
  let v691_r0 : BitVec 32 := Scalar.muli v7 c1_i32_596_r0
  let v692_r0 : BitVec 32 := Scalar.addi c0_i32_597_r0 v691_r0
  v692_r0.toNat
abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x8x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x8x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1x512x1024 : Shape := ⟨3, ![1, 512, 1024]⟩
abbrev S1024x8192 : Shape := ⟨2, ![1024, 8192]⟩
abbrev S1x2048x64x128 : Shape := ⟨4, ![1, 2048, 64, 128]⟩
abbrev S8192x1024 : Shape := ⟨2, ![8192, 1024]⟩
abbrev S1x512x8192 : Shape := ⟨3, ![1, 512, 8192]⟩
abbrev S1x512x64x128 : Shape := ⟨4, ![1, 512, 64, 128]⟩
abbrev S_ : Shape := ⟨0, ![]⟩
abbrev S1x64x512x1 : Shape := ⟨4, ![1, 64, 512, 1]⟩
abbrev S1x1024x64x128 : Shape := ⟨4, ![1, 1024, 64, 128]⟩
abbrev S1x64x512x1024 : Shape := ⟨4, ![1, 64, 512, 1024]⟩
abbrev S1x64x512 : Shape := ⟨3, ![1, 64, 512]⟩
abbrev S1x512x64x1 : Shape := ⟨4, ![1, 512, 64, 1]⟩
abbrev S1x64x128x512 : Shape := ⟨4, ![1, 64, 128, 512]⟩

abbrev nBuf : Space → Nat
  | .hbm => 75
  | .vmem => 0
  | .smem => 0
  | _ => 0

abbrev bufTy : (tb : Table) → Fin (tcTables nBuf tb) → BufTy
  | .hbm, ⟨0, _⟩ => ⟨S1x512x1024, .bf16⟩
  | .hbm, ⟨1, _⟩ => ⟨S1024x8192, .bf16⟩
  | .hbm, ⟨2, _⟩ => ⟨S1x2048x64x128, .bf16⟩
  | .hbm, ⟨3, _⟩ => ⟨S1x2048x64x128, .bf16⟩
  | .hbm, ⟨4, _⟩ => ⟨S8192x1024, .bf16⟩
  | .hbm, ⟨5, _⟩ => ⟨S1x512x8192, .f32⟩
  | .hbm, ⟨6, _⟩ => ⟨S1x512x8192, .bf16⟩
  | .hbm, ⟨7, _⟩ => ⟨S1x512x64x128, .bf16⟩
  | .hbm, ⟨8, _⟩ => ⟨S_, .f32⟩
  | .hbm, ⟨9, _⟩ => ⟨S1x512x64x128, .f32⟩
  | .hbm, ⟨10, _⟩ => ⟨S_, .f32⟩
  | .hbm, ⟨11, _⟩ => ⟨S1x64x512x1, .f32⟩
  | .hbm, ⟨12, _⟩ => ⟨S_, .f32⟩
  | .hbm, ⟨13, _⟩ => ⟨S1x64x512x1, .f32⟩
  | .hbm, ⟨14, _⟩ => ⟨S1x1024x64x128, .bf16⟩
  | .hbm, ⟨15, _⟩ => ⟨S1x1024x64x128, .bf16⟩
  | .hbm, ⟨16, _⟩ => ⟨S1x64x512x1024, .f32⟩
  | .hbm, ⟨17, _⟩ => ⟨S1x64x512x1024, .bf16⟩
  | .hbm, ⟨18, _⟩ => ⟨S1x64x512x1024, .f32⟩
  | .hbm, ⟨19, _⟩ => ⟨S_, .f32⟩
  | .hbm, ⟨20, _⟩ => ⟨S1x64x512x1024, .f32⟩
  | .hbm, ⟨21, _⟩ => ⟨S1x64x512x1024, .f32⟩
  | .hbm, ⟨22, _⟩ => ⟨S_, .f32⟩
  | .hbm, ⟨23, _⟩ => ⟨S1x64x512, .f32⟩
  | .hbm, ⟨24, _⟩ => ⟨S1x64x512x1, .f32⟩
  | .hbm, ⟨25, _⟩ => ⟨S1x64x512x1, .f32⟩
  | .hbm, ⟨26, _⟩ => ⟨S1x64x512x1, .f32⟩
  | .hbm, ⟨27, _⟩ => ⟨S1x64x512x1, .f32⟩
  | .hbm, ⟨28, _⟩ => ⟨S1x64x512x1024, .f32⟩
  | .hbm, ⟨29, _⟩ => ⟨S1x64x512x1024, .f32⟩
  | .hbm, ⟨30, _⟩ => ⟨S1x64x512x1024, .f32⟩
  | .hbm, ⟨31, _⟩ => ⟨S1x64x512x1, .f32⟩
  | .hbm, ⟨32, _⟩ => ⟨S_, .f32⟩
  | .hbm, ⟨33, _⟩ => ⟨S1x64x512, .f32⟩
  | .hbm, ⟨34, _⟩ => ⟨S1x64x512x1, .f32⟩
  | .hbm, ⟨35, _⟩ => ⟨S1x64x512x1, .f32⟩
  | .hbm, ⟨36, _⟩ => ⟨S1x512x64x1, .f32⟩
  | .hbm, ⟨37, _⟩ => ⟨S1x512x64x128, .f32⟩
  | .hbm, ⟨38, _⟩ => ⟨S1x512x64x128, .f32⟩
  | .hbm, ⟨39, _⟩ => ⟨S1x64x128x512, .f32⟩
  | .hbm, ⟨40, _⟩ => ⟨S1x512x64x128, .f32⟩
  | .hbm, ⟨41, _⟩ => ⟨S1x512x64x128, .f32⟩
  | .hbm, ⟨42, _⟩ => ⟨S1x1024x64x128, .bf16⟩
  | .hbm, ⟨43, _⟩ => ⟨S1x1024x64x128, .bf16⟩
  | .hbm, ⟨44, _⟩ => ⟨S1x64x512x1024, .f32⟩
  | .hbm, ⟨45, _⟩ => ⟨S1x64x512x1024, .bf16⟩
  | .hbm, ⟨46, _⟩ => ⟨S1x64x512x1024, .f32⟩
  | .hbm, ⟨47, _⟩ => ⟨S_, .f32⟩
  | .hbm, ⟨48, _⟩ => ⟨S1x64x512x1024, .f32⟩
  | .hbm, ⟨49, _⟩ => ⟨S1x64x512x1024, .f32⟩
  | .hbm, ⟨50, _⟩ => ⟨S_, .f32⟩
  | .hbm, ⟨51, _⟩ => ⟨S1x64x512, .f32⟩
  | .hbm, ⟨52, _⟩ => ⟨S1x64x512x1, .f32⟩
  | .hbm, ⟨53, _⟩ => ⟨S1x64x512x1, .f32⟩
  | .hbm, ⟨54, _⟩ => ⟨S1x64x512x1, .f32⟩
  | .hbm, ⟨55, _⟩ => ⟨S1x64x512x1, .f32⟩
  | .hbm, ⟨56, _⟩ => ⟨S1x64x512x1024, .f32⟩
  | .hbm, ⟨57, _⟩ => ⟨S1x64x512x1024, .f32⟩
  | .hbm, ⟨58, _⟩ => ⟨S1x64x512x1024, .f32⟩
  | .hbm, ⟨59, _⟩ => ⟨S1x64x512x1, .f32⟩
  | .hbm, ⟨60, _⟩ => ⟨S_, .f32⟩
  | .hbm, ⟨61, _⟩ => ⟨S1x64x512, .f32⟩
  | .hbm, ⟨62, _⟩ => ⟨S1x64x512x1, .f32⟩
  | .hbm, ⟨63, _⟩ => ⟨S1x64x512x1, .f32⟩
  | .hbm, ⟨64, _⟩ => ⟨S1x512x64x1, .f32⟩
  | .hbm, ⟨65, _⟩ => ⟨S1x512x64x128, .f32⟩
  | .hbm, ⟨66, _⟩ => ⟨S1x512x64x128, .f32⟩
  | .hbm, ⟨67, _⟩ => ⟨S1x64x128x512, .f32⟩
  | .hbm, ⟨68, _⟩ => ⟨S1x512x64x128, .f32⟩
  | .hbm, ⟨69, _⟩ => ⟨S1x512x64x128, .f32⟩
  | .hbm, ⟨70, _⟩ => ⟨S1x512x64x1, .f32⟩
  | .hbm, ⟨71, _⟩ => ⟨S1x512x64x128, .f32⟩
  | .hbm, ⟨72, _⟩ => ⟨S1x512x64x128, .f32⟩
  | .hbm, ⟨73, _⟩ => ⟨S1x512x8192, .f32⟩
  | .hbm, ⟨74, _⟩ => ⟨S1x512x1024, .f32⟩
  | _, _ => ⟨S1x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_7 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩

abbrev nD : Nat := 1
abbrev τ : Topo := Topo.v7x

variable {F : FTy → Type} [FloatOps F]
-- ==== Proof.KI.Steps.lean ====
/-
  The kernel's body as a chain of named steps. A device announces itself to its two neighbours, computes its own partial
  product (eight heads of attention, then the product with its rows of the output weights), and walks the ring fourteen
  times: seven steps that add a received block of rows into its own, seven that copy a received block over its own. It ends
  with a second meeting of the neighbours. `body_eq` states that the printed body is this chain.
-/
module

public import proofs.«01_k».proof.Proof.Gen.KernelIdeal
public import proofs.«01_k».proof.Proof.Gen.KernelIdeal.Skeleton

@[expose] public section

set_option maxRecDepth 65536

noncomputable section

namespace Cert.KernelIdeal.Ring8

open Idealize.ShloMosaic Idealize.ShloMosaic.TcCoe Idealize.SL.Sem
open Cert.KernelIdeal Cert.KernelIdeal.Gen

variable {F : FTy → Type} [FloatOps F]

/-! ## The values -/

/-- One head's output: the head's queries against all its keys, scaled, the row-wise softmax (the weights rounded for the
    product with the values), and the division by the row's sum of weights. -/
def headOut (q : FVec F S512x1024 .f32) (h : ℕ) (hs : S512x1024.Slices ![0, 128 * h] S512x128)
    (kv : Vec F S2048x1x128 .bf16 × Vec F S2048x1x128 .bf16) : FVec F S512x128 .f32 :=
  have s : FVec F S512x2048 .f32 := mulf (matmul dot_S512x128_S2048x128_S512x2048_1_1_0_0_n_n none
    (truncf .bf16 (extractStridedSlice S512x128 ![0, 128 * h] q hs) bitsLt_bf16_f32)
    (shapeCast S2048x128 kv.1 shapeCasts_S2048x1x128_S2048x128) (constant S512x2048 .f32 0x00000000#32))
    (broadcast S512x2048 (Scalar.ofBits .f32 0x3DB504F3#32))
  have p : FVec F S512x2048 .f32 := exp (subf s (broadcastTo S512x2048
    (shapeCast S512x1 (multiReduction .maximumf [1] S512 s 0xFF800000#32 reduces_S512x2048_S512 (.inl rfl) rfl)
      shapeCasts_S512_S512x1) broadcasts_S512x1_S512x2048))
  have l : FVec F S512 .f32 := multiReduction .add [1] S512 p 0x00000000#32 reduces_S512x2048_S512 (.inl rfl) rfl
  divf (matmul dot_S512x2048_S2048x128_S512x128_1_0_0_1_n_n none (truncf .bf16 p bitsLt_bf16_f32)
      (shapeCast S2048x128 kv.2 shapeCasts_S2048x1x128_S2048x128) (constant S512x128 .f32 0x00000000#32))
    (broadcastTo S512x128 (shapeCast S512x1 l shapeCasts_S512_S512x1) broadcasts_S512x1_S512x128)

/-- The queries: the input times the device's columns of the query weights. -/
def queries (x : Vec F S512x1024 .bf16) (wq : Vec F S1024x1024 .bf16) : FVec F S512x1024 .f32 :=
  matmul dot_S512x1024_S1024x1024_S512x1024_1_0_0_1_n_n none (shapeCast S512x1024 x shapeCasts_S512x1024_S512x1024)
    (shapeCast S1024x1024 wq shapeCasts_S1024x1024_S1024x1024) (constant S512x1024 .f32 0x00000000#32)

/-- The device's partial product, from what its loads read: the eight heads side by side times its rows of the output
    weights. -/
def partVal (x : Vec F S512x1024 .bf16) (wq : Vec F S1024x1024 .bf16)
    (kv : Fin 8 → Vec F S2048x1x128 .bf16 × Vec F S2048x1x128 .bf16) (wo : Vec F S1024x1024 .bf16) : FVec F S512x1024 .f32 :=
  have q := queries x wq
  matmul dot_S512x1024_S1024x1024_S512x1024_1_0_0_1_n_n none
    (truncf .bf16 (concatenate S512x1024 1
      [⟨S512x128, headOut q 0 slices_S512x1024_o0_0_S512x128 (kv 0)⟩, ⟨S512x128, headOut q 1 slices_S512x1024_o0_128_S512x128 (kv 1)⟩,
       ⟨S512x128, headOut q 2 slices_S512x1024_o0_256_S512x128 (kv 2)⟩, ⟨S512x128, headOut q 3 slices_S512x1024_o0_384_S512x128 (kv 3)⟩,
       ⟨S512x128, headOut q 4 slices_S512x1024_o0_512_S512x128 (kv 4)⟩, ⟨S512x128, headOut q 5 slices_S512x1024_o0_640_S512x128 (kv 5)⟩,
       ⟨S512x128, headOut q 6 slices_S512x1024_o0_768_S512x128 (kv 6)⟩, ⟨S512x128, headOut q 7 slices_S512x1024_o0_896_S512x128 (kv 7)⟩]
      concatenates_S512x128_S512x128_S512x128_S512x128_S512x128_S512x128_S512x128_S512x128_S512x1024_d1) bitsLt_bf16_f32)
    (shapeCast S1024x1024 wo shapeCasts_S1024x1024_S1024x1024) (constant S512x1024 .f32 0x00000000#32)

/-! ## The steps' rectangles -/

theorem slot_inb (k : Fin 14) : ∀ a, (![k.val, 0, 0] : Fin 3 → ℕ) a + S1x64x1024.size a ≤ S14x64x1024.size a := by
  revert k; decide
theorem cell_inb (k : Fin 14) : ∀ a, (![k.val] : Fin 1 → ℕ) a + S1.size a ≤ S14.size a := by
  revert k; decide
theorem head_inb (h : Fin 8) : ∀ a, (![0, h.val, 0] : Fin 3 → ℕ) a + S2048x1x128.size a ≤ S2048x8x128.size a := by
  revert h; decide

/-- An offset whose 64 rows lie in the 512-row array. -/
abbrev RowInb (off : Fin 2 → ℕ) : Prop := ∀ a, off a + S64x1024.size a ≤ S512x1024.size a

/-- 64 rows of the result from an offset on. -/
abbrev rowRect (off : Fin 2 → ℕ) (h : RowInb off) : Rect S512x1024 := Rect.unit (s := S512x1024) off S64x1024.size h
/-- Slot `k` of the receive buffer. -/
abbrev slotRect (k : Fin 14) : Rect S14x64x1024 := Rect.unit (s := S14x64x1024) ![k.val, 0, 0] S1x64x1024.size (slot_inb k)
/-- Head `h` of the keys or of the values. -/
abbrev headRect (h : Fin 8) : Rect S2048x8x128 := Rect.unit (s := S2048x8x128) ![0, h.val, 0] S2048x1x128.size (head_inb h)

/-- 64 rows of a result buffer, as a memref. -/
abbrev rowsOf (o : Memref sig .tc .vmem S512x1024 .f32) (off : Fin 2 → ℕ) (h : RowInb off) : Memref sig .tc .vmem S64x1024 .f32 :=
  o.slice (rowRect off h) (fun _ => rfl)
/-- Slot `k` of a receive buffer, as a memref of 64 rows. -/
abbrev slotOf (w : Memref sig .tc .vmem S14x64x1024 .f32) (k : Fin 14) : Memref sig .tc .vmem S64x1024 .f32 :=
  (w.slice (slotRect k) (fun _ => rfl)).squeeze S64x1024 squeezes_S1x64x1024_S64x1024
/-- Semaphore `k` of a row of DMA semaphores. -/
abbrev semOf (s : DmaSems sig S14) (k : Fin 14) : DmaSem sig :=
  ((s.slice (Rect.unit (s := S14) ![k.val] S1.size (cell_inb k))).squeeze S_ squeezes_S1_S_).sem

/-! ## The steps -/

variable (F) in
/-- Programs of a TensorCore over the kernel's labels. -/
abbrev TcProg (α : Type) : Type _ := Prog (TpuEff nD τ sig (Elt F) Λ₀ .tc) α

/-- One transfer of the ring: 64 rows to slot `k` of the next device, then the waits for the rows sent and for the rows
    received. -/
def xfer (o : Memref sig .tc .vmem S512x1024 .f32) (w : Memref sig .tc .vmem S14x64x1024 .f32) (sS sR : DmaSems sig S14)
    (dst : Dev nD) (k : Fin 14) (off : Fin 2 → ℕ) (h : RowInb off) : TcProg F PUnit := do
  Prog.lift (.enqueueDma (rowsOf o off h) (.remote (Dev.tc dst) (slotOf w k) (.dma (semOf sS k))) (.dma (semOf sR k))
    (View.wordExact_bits rfl) ((View.wordExact_bits rfl).reshape _ _) ⟨⟨rfl, Or.inl rfl⟩, trivial⟩)
  Prog.lift (.waitDma2 (semOf sS k) (slotOf w k) (rowsOf o off h) ((View.wordExact_bits rfl).reshape _ _) (View.wordExact_bits rfl))
  Prog.lift (.waitDma2 (semOf sR k) (rowsOf o off h) (slotOf w k) (View.wordExact_bits rfl) ((View.wordExact_bits rfl).reshape _ _))

/-- The received block of slot `k` added into the rows at `off`. -/
def addStep (o : Memref sig .tc .vmem S512x1024 .f32) (w : Memref sig .tc .vmem S14x64x1024 .f32) (k : Fin 14)
    (off : Fin 2 → ℕ) (h : RowInb off) : TcProg F PUnit := do
  let v : Vec F S64x1024 .f32 ← Prog.lift (.load o (rowRect off h).toLoadRect (View.loadsAt_vmem h_S64x1024))
  let u : Vec F S1x64x1024 .f32 ← Prog.lift (.load w (slotRect k).toLoadRect (View.loadsAt_vmem h_S1x64x1024))
  let _ : Vec F S64x1024 .f32 ← Prog.lift (.load o (rowRect off h).toLoadRect (View.loadsAt_vmem h_S64x1024))
  Prog.lift (.store o (rowRect off h) (k0_pay19 v u) Finset.univ (View.stores_vmem_bits_univ h_S64x1024 rfl) (.inl rfl))

/-- The received block of slot `k` copied over the rows at `off`. -/
def copyStep (o : Memref sig .tc .vmem S512x1024 .f32) (w : Memref sig .tc .vmem S14x64x1024 .f32) (k : Fin 14)
    (off : Fin 2 → ℕ) (h : RowInb off) : TcProg F PUnit := do
  let u : Vec F S1x64x1024 .f32 ← Prog.lift (.load w (slotRect k).toLoadRect (View.loadsAt_vmem h_S1x64x1024))
  let _ : Vec F S64x1024 .f32 ← Prog.lift (.load o (rowRect off h).toLoadRect (View.loadsAt_vmem h_S64x1024))
  Prog.lift (.store o (rowRect off h) (k0_pay26 u) Finset.univ (View.stores_vmem_bits_univ h_S64x1024 rfl) (.inl rfl))

/-- A meeting of a device with its two neighbours on a semaphore. -/
def meet (sem : Sem sig) (l r : Dev nD) : TcProg F PUnit := do
  semSignalWord l sem 1#32
  semSignalWord r sem 1#32
  semWaitWord sem 2#32

/-- The loads of one head's keys and values. -/
def loadHead (a3 a4 : Memref sig .tc .vmem S2048x8x128 .bf16) (h : Fin 8) :
    TcProg F (Vec F S2048x1x128 .bf16 × Vec F S2048x1x128 .bf16) := do
  let k : Vec F S2048x1x128 .bf16 ← Prog.lift (.load a3 (headRect h).toLoadRect (View.loadsAt_vmem h_S2048x1x128))
  let v : Vec F S2048x1x128 .bf16 ← Prog.lift (.load a4 (headRect h).toLoadRect (View.loadsAt_vmem h_S2048x1x128))
  pure (k, v)

/-- The whole-array rectangle of a 512-by-1024 buffer. -/
abbrev wholeRect : Rect S512x1024 := Rect.unit (s := S512x1024) ![0, 0] S512x1024.size inb_S512x1024_S512x1024_0_0
/-- The whole-array rectangle of a 1024-by-1024 buffer. -/
abbrev wholeRectW : Rect S1024x1024 := Rect.unit (s := S1024x1024) ![0, 0] S1024x1024.size inb_S1024x1024_S1024x1024_0_0

/-- The device's own work: load the operands, compute the partial product, store it as the whole result buffer. -/
def compute (a0 : Memref sig .tc .vmem S512x1024 .bf16) (a1 a2 : Memref sig .tc .vmem S1024x1024 .bf16)
    (a3 a4 : Memref sig .tc .vmem S2048x8x128 .bf16) (o : Memref sig .tc .vmem S512x1024 .f32) : TcProg F PUnit := do
  let x : Vec F S512x1024 .bf16 ← Prog.lift (.load a0 wholeRect.toLoadRect (View.loadsAt_vmem h_S512x1024))
  let wq : Vec F S1024x1024 .bf16 ← Prog.lift (.load a1 wholeRectW.toLoadRect (View.loadsAt_vmem h_S1024x1024))
  let p0 ← loadHead a3 a4 0
  let p1 ← loadHead a3 a4 1
  let p2 ← loadHead a3 a4 2
  let p3 ← loadHead a3 a4 3
  let p4 ← loadHead a3 a4 4
  let p5 ← loadHead a3 a4 5
  let p6 ← loadHead a3 a4 6
  let p7 ← loadHead a3 a4 7
  let wo : Vec F S1024x1024 .bf16 ← Prog.lift (.load a2 wholeRectW.toLoadRect (View.loadsAt_vmem h_S1024x1024))
  let _ : Vec F S512x1024 .f32 ← Prog.lift (.load o wholeRect.toLoadRect (View.loadsAt_vmem h_S512x1024))
  Prog.lift (.store o wholeRect (partVal x wq ![p0, p1, p2, p3, p4, p5, p6, p7] wo) Finset.univ
    (View.stores_vmem_bits_univ h_S512x1024 rfl) (.inl rfl))

/-! ## The chain -/

/-- The device a transfer of the ring goes to. -/
def nxt (d : Dev nD) : Dev nD := ⟨k0_dev3 d, k0_dev3_lt d⟩

/-- Ring step `s` of the first seven, at device `d`: send, wait, add. -/
def rsStep (o : Memref sig .tc .vmem S512x1024 .f32) (w : Memref sig .tc .vmem S14x64x1024 .f32) (sS sR : DmaSems sig S14)
    (d : Dev nD) (s : Fin 7) : TcProg F PUnit := do
  xfer o w sS sR (nxt d) ⟨s.val, by omega⟩ (k0_off1 d (BitVec.ofNat 32 s.val)) (k0_off1_inb d s)
  addStep o w ⟨s.val, by omega⟩ (k0_off2 d (BitVec.ofNat 32 s.val)) (k0_off2_inb d s)

/-- Ring step `t` of the last seven, at device `d`: send, wait, copy. -/
def agStep (o : Memref sig .tc .vmem S512x1024 .f32) (w : Memref sig .tc .vmem S14x64x1024 .f32) (sS sR : DmaSems sig S14)
    (d : Dev nD) (t : Fin 7) : TcProg F PUnit := do
  xfer o w sS sR (nxt d) ⟨7 + t.val, by omega⟩ (k0_off3 d (BitVec.ofNat 32 t.val)) (k0_off3_inb d t)
  copyStep o w ⟨7 + t.val, by omega⟩ (k0_off4 d (BitVec.ofNat 32 t.val)) (k0_off4_inb d t)

/-- The body as a chain of steps. -/
def chain (a0 : Memref sig .tc .vmem S512x1024 .bf16) (a1 a2 : Memref sig .tc .vmem S1024x1024 .bf16)
    (a3 a4 : Memref sig .tc .vmem S2048x8x128 .bf16) (o : Memref sig .tc .vmem S512x1024 .f32)
    (w : Memref sig .tc .vmem S14x64x1024 .f32) (sS sR : DmaSems sig S14) (b2 : Sems sig S_) : TcProg F PUnit := do
  let d : Dev nD ← Prog.lift .deviceId
  meet (SemArray.scalar (sig.barrier 0 rfl) : Sems sig S_).sem ⟨k0_dev1 d, k0_dev1_lt d⟩ ⟨k0_dev2 d, k0_dev2_lt d⟩
  compute a0 a1 a2 a3 a4 o
  rsStep o w sS sR d 0
  rsStep o w sS sR d 1
  rsStep o w sS sR d 2
  rsStep o w sS sR d 3
  rsStep o w sS sR d 4
  rsStep o w sS sR d 5
  rsStep o w sS sR d 6
  agStep o w sS sR d 0
  agStep o w sS sR d 1
  agStep o w sS sR d 2
  agStep o w sS sR d 3
  agStep o w sS sR d 4
  agStep o w sS sR d 5
  agStep o w sS sR d 6
  meet b2.sem ⟨k0_dev17 d, k0_dev17_lt d⟩ ⟨k0_dev18 d, k0_dev18_lt d⟩

/-- The printed body is the chain of steps. -/
theorem body_eq (a0 : Memref sig .tc .vmem S512x1024 .bf16) (h0 : a0.IsWhole) (a1 : Memref sig .tc .vmem S1024x1024 .bf16) (h1 : a1.IsWhole)
    (a2 : Memref sig .tc .vmem S1024x1024 .bf16) (h2 : a2.IsWhole) (a3 : Memref sig .tc .vmem S2048x8x128 .bf16) (h3 : a3.IsWhole)
    (a4 : Memref sig .tc .vmem S2048x8x128 .bf16) (h4 : a4.IsWhole) (o : Memref sig .tc .vmem S512x1024 .f32) (ho : o.IsWhole)
    (w : Memref sig .tc .vmem S14x64x1024 .f32) (hw : w.IsWhole) (sS sR : DmaSems sig S14) (b2 : Sems sig S_) :
    cc0_body (F := F) a0 h0 a1 h1 a2 h2 a3 h3 a4 h4 o ho w hw sS sR b2 = chain a0 a1 a2 a3 a4 o w sS sR b2 := by
  rw [cc0_body_eq_skeleton]
  rfl

end Cert.KernelIdeal.Ring8

end
-- ==== Proof.KI.Protocol.lean ====
/-
  The protocol of the ring. Every device owns thirty semaphores the protocol uses: the barrier it meets its neighbours on
  before the ring, the one it meets them on after it, and for each of the fourteen ring steps one that counts the rows it
  sent and one that counts the rows it received. Each is waited for once. This module states the buffers' contents along the
  ring (`outAt`), what each arrival hands to the device that waits for it (`ringRd`), and the order of the waits (`lv`).
-/
module

public import proofs.«01_k».proof.Proof.KI.Steps
public import proofs.«01_k».proof.Proof.Gen.KernelIdeal.Launch
public import Idealize.ShloMosaic.Lib.Rounds
public import Idealize.ShloMosaic.Lib.Ring.FamCut
public import Idealize.ShloMosaic.Lib.Pipeline.Kit
public import Idealize.ShloMosaic.Lib.Tactic

@[expose] public section

set_option maxRecDepth 16384

noncomputable section

namespace Cert.KernelIdeal.Ring8

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The ghost state: the pipeline's rounds and the ring's -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The ring of devices -/

/-- The device before `c` in the ring. -/
def prv (c : Dev nD) : Dev nD := ⟨k0_dev1 c, k0_dev1_lt c⟩

theorem nxt_val (c : Dev nD) : (nxt c).val = (c.val + 1) % 8 := k0_dev3_eq c
theorem prv_val (c : Dev nD) : (prv c).val = (c.val + 7) % 8 := k0_dev1_eq c

theorem prv_nxt (c : Dev nD) : prv (nxt c) = c := by
  apply Fin.ext; rw [prv_val, nxt_val]; have : c.val < 8 := c.isLt; omega
theorem nxt_prv (c : Dev nD) : nxt (prv c) = c := by
  apply Fin.ext; rw [nxt_val, prv_val]; have : c.val < 8 := c.isLt; omega

/-- The turn of the ring by one device. -/
def turn : Dev nD ≃ Dev nD := ⟨nxt, prv, prv_nxt, nxt_prv⟩

theorem nxt_ne_prv (c : Dev nD) : nxt c ≠ prv c := by
  intro h; have h := congrArg Fin.val h; rw [nxt_val, prv_val] at h; have : c.val < 8 := c.isLt; omega

/-! ## Buffers, semaphores, cells -/

/-- The staged result buffer. -/
abbrev oM : Memref sig .tc .vmem S512x1024 .f32 := Memref.whole cc0_stg5_0
/-- The receive buffer of fourteen slots. -/
abbrev wM : Memref sig .tc .vmem S14x64x1024 .f32 := Memref.whole cc0_scratch0

/-- The semaphore of the meeting before the ring. -/
abbrev barS : Sem sig := (SemArray.scalar (sig.barrier 0 rfl) : Sems sig S_).sem
/-- The semaphore of the meeting after the ring. -/
abbrev endS : Sem sig := (cc0_scoped0 : Sems sig S_).sem
/-- The semaphore that counts the rows sent at step `k`. -/
abbrev sndS (k : Fin 14) : DmaSem sig := semOf cc0_scratch1 k
/-- The semaphore that counts the rows received at step `k`. -/
abbrev rcvS (k : Fin 14) : DmaSem sig := semOf cc0_scratch2 k

abbrev barCell (c : Dev nD) : GSem nD τ sig := ((c : Thread nD τ), .reg barS)
abbrev endCell (c : Dev nD) : GSem nD τ sig := ((c : Thread nD τ), .reg endS)
abbrev sndCell (c : Dev nD) (k : Fin 14) : GSem nD τ sig := ((c : Thread nD τ), .dma (sndS k))
abbrev rcvCell (c : Dev nD) (k : Fin 14) : GSem nD τ sig := ((c : Thread nD τ), .dma (rcvS k))

/-- What a semaphore is for. -/
inductive Role
  | bar | fin | snd (k : Fin 14) | rcv (k : Fin 14) | other
deriving DecidableEq

/-- What each semaphore of a device is for. -/
def role : SemLoc sig → Role
  | .reg s => if s = barS then .bar else if s = endS then .fin else .other
  | .dma s => if h : 6 ≤ s.val ∧ s.val < 20 then .snd ⟨s.val - 6, by omega⟩
      else if h : 20 ≤ s.val ∧ s.val < 34 then .rcv ⟨s.val - 20, by omega⟩ else .other

theorem sndS_val (k : Fin 14) : (sndS k).val = 6 + k.val := by revert k; decide
theorem rcvS_val (k : Fin 14) : (rcvS k).val = 20 + k.val := by revert k; decide
theorem endS_ne_barS : endS ≠ barS := by decide

theorem role_bar : role (.reg barS) = .bar := by simp only [role, if_pos]
theorem role_end : role (.reg endS) = .fin := by simp only [role]; rw [if_neg endS_ne_barS, if_pos trivial]
theorem role_snd (k : Fin 14) : role (.dma (sndS k)) = .snd k := by
  have h := sndS_val k
  have hk := k.isLt
  simp only [role]
  rw [dif_pos ⟨by omega, by omega⟩]
  congr 1; apply Fin.ext; simp only; omega
theorem role_rcv (k : Fin 14) : role (.dma (rcvS k)) = .rcv k := by
  have h := rcvS_val k
  have hk := k.isLt
  simp only [role]
  rw [dif_neg (by omega), dif_pos ⟨by omega, by omega⟩]
  congr 1; apply Fin.ext; simp only; omega
/-- A staging semaphore plays no part in the protocol. -/
theorem role_low (s : DmaSem sig) (h : s.val < 6) : role (.dma s) = .other := by
  simp only [role]; rw [dif_neg (by omega), dif_neg (by omega)]

/-! ## Contents along the ring -/

/-- The offset of the rows a device sends at step `n`. -/
def sendOff (n : ℕ) (c : Dev nD) : Fin 2 → ℕ := ![64 * ((c.val + 16 - n) % 8), 0]
/-- The offset of the rows a device rewrites at step `n`: those the device before it sent. -/
def recvOff (n : ℕ) (c : Dev nD) : Fin 2 → ℕ := ![64 * ((c.val + 15 - n) % 8), 0]

theorem rows_inb (j : ℕ) : RowInb ![64 * (j % 8), 0] := by
  have := Nat.mod_lt j (show 0 < 8 by decide)
  intro a
  fin_cases a
  · show 64 * (j % 8) + 64 ≤ 512; omega
  · show 0 + 1024 ≤ 1024; omega
theorem sendOff_inb (n : ℕ) (c : Dev nD) : RowInb (sendOff n c) := rows_inb _
theorem recvOff_inb (n : ℕ) (c : Dev nD) : RowInb (recvOff n c) := rows_inb _

theorem sendOff_prv (n : ℕ) (hn : n < 14) (c : Dev nD) : sendOff n (prv c) = recvOff n c := by
  have : c.val < 8 := c.isLt
  unfold sendOff recvOff; rw [prv_val]; congr 2; omega

theorem off1_eq (c : Dev nD) (s : Fin 7) : k0_off1 c (BitVec.ofNat 32 s.val) = sendOff s.val c := by
  have : c.val < 8 := c.isLt
  rw [k0_off1_eq]; unfold sendOff; congr 2; omega
theorem off2_eq (c : Dev nD) (s : Fin 7) : k0_off2 c (BitVec.ofNat 32 s.val) = recvOff s.val c := by
  have : c.val < 8 := c.isLt
  rw [k0_off2_eq]; unfold recvOff; congr 2; omega
theorem off3_eq (c : Dev nD) (t : Fin 7) : k0_off3 c (BitVec.ofNat 32 t.val) = sendOff (7 + t.val) c := by
  have : c.val < 8 := c.isLt
  rw [k0_off3_eq]; unfold sendOff; congr 2; omega
theorem off4_eq (c : Dev nD) (t : Fin 7) : k0_off4 c (BitVec.ofNat 32 t.val) = recvOff (7 + t.val) c := by
  have : c.val < 8 := c.isLt
  rw [k0_off4_eq]; unfold recvOff; congr 2; omega

variable (F) in
/-- Contents of the result buffer. -/
abbrev OutC : Type := (cc0_stg5_0 : Ref sig .tc).ty.Contents (Elt F)

/-- The rows a device sends at step `n`, as a memref. -/
abbrev sendRows (n : ℕ) (c : Dev nD) : Memref sig .tc .vmem S64x1024 .f32 := rowsOf oM (sendOff n c) (sendOff_inb n c)
/-- The rows a device rewrites at step `n`, as a view of its result buffer. -/
abbrev recvRows (n : ℕ) (c : Dev nD) := (oM.access (rowRect (recvOff n c) (recvOff_inb n c)))

/-- The result buffer after step `n` on device `c`: the first seven steps add the landed block, the others copy it. -/
def stepOut (n : ℕ) (c : Dev nD) (f : OutC F) (land : FVec F S64x1024 .f32) : OutC F :=
  if n < 7 then (recvRows n c).write (Elt F) f (addf ((recvRows n c).read (Elt F) f : FVec F S64x1024 .f32) land) Finset.univ
  else (recvRows n c).write (Elt F) f land Finset.univ

variable (P : Dev nD → OutC F)

/-- Device `c`'s result buffer before step `n`, from every device's partial product. -/
def outAt : ℕ → Dev nD → OutC F
  | 0, c => P c
  | n + 1, c => stepOut n c (outAt n c) ((sendRows n (prv c)).view.read (Elt F) (outAt n (prv c)))

/-- The block that lands on device `c` at step `n`: the rows the device before it sent. -/
def landAt (n : ℕ) (c : Dev nD) : FVec F S64x1024 .f32 := (sendRows n (prv c)).view.read (Elt F) (outAt P n (prv c))

theorem outAt_succ (n : ℕ) (c : Dev nD) : outAt P (n + 1) c = stepOut n c (outAt P n c) (landAt P n c) := rfl

/-! ## What the arrivals hand over -/

/-- The credit of one block. -/
abbrev N : ℕ := (slotOf wM 0).view.dmaCredit
theorem N_pos : 0 < N := View.dmaCredit_pos _ (by decide)
theorem N_snd (k : Fin 14) (n : ℕ) (c : Dev nD) : (sendRows n c).view.amount (.dma (sndS k)) = N := rfl
theorem N_rcv (k k' : Fin 14) : (slotOf wM k).view.amount (.dma (rcvS k')) = N := rfl

/-- Slot `k` of `c`'s receive buffer, at some contents. -/
def slotFree (c : Dev nD) (k : Fin 14) : sProp 𝕄 :=
  iprop(∃ f, (slotOf wM k).view.loc (c : Thread nD τ) ↦[(slotOf wM k).view.set]{fullShare} f)
/-- Slot `k` of `c`'s receive buffer, holding a block. -/
def slotHolds (c : Dev nD) (k : Fin 14) (v : FVec F S64x1024 .f32) : sProp 𝕄 :=
  iprop(∃ f, (slotOf wM k).view.loc (c : Thread nD τ) ↦[(slotOf wM k).view.set]{fullShare}
    ((slotOf wM k).view.write (Elt F) f v Finset.univ))
/-- The rows `c` sends at step `k`, as it holds them then. -/
def sentRows (c : Dev nD) (k : Fin 14) : sProp 𝕄 :=
  (sendRows k.val c).view.loc (c : Thread nD τ) ↦[(sendRows k.val c).view.set]{fullShare} outAt P k.val c
/-- What the next device hands over at the first meeting: its receive buffer, and that its receive cells and its last
    meeting's cell are open. -/
def fromNext (c : Dev nD) : sProp 𝕄 :=
  iprop(bigSep Finset.univ (fun k => slotFree (nxt c) k) ∗ bigSep Finset.univ (fun k => reached ER (rcvCell (nxt c) k) 0)
    ∗ reached ER (endCell (nxt c)) 0)
/-- What the device before hands over at the first meeting: that its last meeting's cell is open. -/
def fromPrev (c : Dev nD) : sProp 𝕄 := reached ER (endCell (prv c)) 0

omit [FloatOps F] in
instance slotFree_storable (c : Dev nD) (k : Fin 14) : BI.Storable (upEmb : UEmb _ 𝕄) (slotFree (F := F) c k) := by
  unfold slotFree; infer_instance
omit [FloatOps F] in
instance slotHolds_storable (c : Dev nD) (k : Fin 14) (v) : BI.Storable (upEmb : UEmb _ 𝕄) (slotHolds (F := F) c k v) := by
  unfold slotHolds; infer_instance
instance sentRows_storable (c : Dev nD) (k : Fin 14) : BI.Storable (upEmb : UEmb _ 𝕄) (sentRows P c k) := by
  unfold sentRows; infer_instance
omit [FloatOps F] in
instance fromNext_storable (c : Dev nD) : BI.Storable (upEmb : UEmb _ 𝕄) (fromNext (F := F) c) := by
  unfold fromNext; infer_instance
omit [FloatOps F] in
instance fromPrev_storable (c : Dev nD) : BI.Storable (upEmb : UEmb _ 𝕄) (fromPrev (F := F) c) := by
  unfold fromPrev; infer_instance

/-- The duties of a cell's one round: a meeting is owed by both neighbours (`true` the next device, `false` the one before),
    a transfer's arrival by the transfer. -/
def dutiesOf : Role → Finset Bool
  | .bar => Finset.univ | .fin => Finset.univ | .snd _ => {false} | .rcv _ => {false} | .other => ∅
/-- The units of a duty. -/
def amountOf : Role → ℕ
  | .bar => 1 | .fin => 1 | .snd _ => N | .rcv _ => N | .other => 1
/-- What a duty hands to the owner of the cell. -/
def payOf (c : Dev nD) (d : Bool) : Role → sProp 𝕄
  | .bar => if d then fromNext c else fromPrev c
  | .fin => iprop(emp)
  | .snd k => sentRows P c k
  | .rcv k => slotHolds c k (landAt P k.val c)
  | .other => iprop(emp)

/-- The schedule: one round of every cell, by what its semaphore is for. -/
def ringRd : Rounds.Schedule (GSem nD τ sig) Bool 𝕄 where
  duties g r := if r = 0 ∧ g.1.2 = .tc then dutiesOf (role g.2) else ∅
  unitless _ := False
  amount g _ _ := amountOf (role g.2)
  payload g _ d := payOf P g.1.1 d (role g.2)
  amount_pos g _ _ _ := by
    cases role g.2 <;> first | exact Nat.one_pos | exact N_pos

instance ringRd_storable (g : GSem nD τ sig) (r : ℕ) (d : Bool) :
    BI.Storable (upEmb : UEmb _ 𝕄) ((ringRd P).payload g r d) := by
  show BI.Storable upEmb (payOf P g.1.1 d (role g.2))
  cases role g.2 <;> dsimp only [payOf] <;> (try split) <;> infer_instance

section Cells
variable (c : Dev nD) (k : Fin 14)

theorem duties_at (sm : SemLoc sig) : (ringRd P).duties ((c : Thread nD τ), sm) 0 = dutiesOf (role sm) := by
  dsimp only [ringRd]; exact if_pos ⟨rfl, rfl⟩
theorem amount_at (sm : SemLoc sig) (d : Bool) : (ringRd P).amount ((c : Thread nD τ), sm) 0 d = amountOf (role sm) := rfl
theorem payload_at (sm : SemLoc sig) (d : Bool) : (ringRd P).payload ((c : Thread nD τ), sm) 0 d = payOf P c d (role sm) := rfl
theorem duties_later (g : GSem nD τ sig) (r : ℕ) (h : 1 ≤ r) : (ringRd P).duties g r = ∅ := by
  dsimp only [ringRd]; exact if_neg fun h' => by omega

theorem duties_bar : (ringRd P).duties (barCell c) 0 = Finset.univ := by rw [duties_at, role_bar]; rfl
theorem duties_end : (ringRd P).duties (endCell c) 0 = Finset.univ := by rw [duties_at, role_end]; rfl
theorem duties_snd : (ringRd P).duties (sndCell c k) 0 = {false} := by rw [duties_at, role_snd]; rfl
theorem duties_rcv : (ringRd P).duties (rcvCell c k) 0 = {false} := by rw [duties_at, role_rcv]; rfl

theorem amount_bar (d : Bool) : (ringRd P).amount (barCell c) 0 d = 1 := by rw [amount_at, role_bar]; rfl
theorem amount_end (d : Bool) : (ringRd P).amount (endCell c) 0 d = 1 := by rw [amount_at, role_end]; rfl
theorem amount_snd (d : Bool) : (ringRd P).amount (sndCell c k) 0 d = N := by rw [amount_at, role_snd]; rfl
theorem amount_rcv (d : Bool) : (ringRd P).amount (rcvCell c k) 0 d = N := by rw [amount_at, role_rcv]; rfl

theorem payload_bar (d : Bool) : (ringRd P).payload (barCell c) 0 d = if d then fromNext c else fromPrev c := by
  rw [payload_at, role_bar]; rfl
theorem payload_end (d : Bool) : (ringRd P).payload (endCell c) 0 d = iprop(emp) := by rw [payload_at, role_end]; rfl
theorem payload_snd (d : Bool) : (ringRd P).payload (sndCell c k) 0 d = sentRows P c k := by rw [payload_at, role_snd]; rfl
theorem payload_rcv (d : Bool) : (ringRd P).payload (rcvCell c k) 0 d = slotHolds c k (landAt P k.val c) := by
  rw [payload_at, role_rcv]; rfl

theorem expect_bar : (ringRd P).expect (barCell c) 0 = 2 := by
  unfold Schedule.expect Schedule.amountOf
  rw [duties_bar, Finset.sum_congr rfl fun d _ => amount_bar P c d]; rfl
theorem expect_end : (ringRd P).expect (endCell c) 0 = 2 := by
  unfold Schedule.expect Schedule.amountOf
  rw [duties_end, Finset.sum_congr rfl fun d _ => amount_end P c d]; rfl
theorem expect_snd : (ringRd P).expect (sndCell c k) 0 = N := by
  unfold Schedule.expect Schedule.amountOf; rw [duties_snd, Finset.sum_singleton, amount_snd]
theorem expect_rcv : (ringRd P).expect (rcvCell c k) 0 = N := by
  unfold Schedule.expect Schedule.amountOf; rw [duties_rcv, Finset.sum_singleton, amount_rcv]

/-- All the payloads of a meeting before the ring. -/
theorem rest_bar : bigSep ((ringRd P).duties (barCell c) 0 \ ∅) (fun d => (ringRd P).payload (barCell c) 0 d)
    = iprop(fromPrev c ∗ fromNext c) := by
  rw [Finset.sdiff_empty, duties_bar, bigSep_univ_eq_bigSepL [false, true] (by decide) (by decide), bigSepL_cons_cons, bigSepL_singleton,
    payload_bar, payload_bar]
  rfl
/-- The payload of the rows sent. -/
theorem rest_snd : bigSep ((ringRd P).duties (sndCell c k) 0 \ ∅) (fun d => (ringRd P).payload (sndCell c k) 0 d) = sentRows P c k := by
  rw [Finset.sdiff_empty, duties_snd, bigSep_singleton, payload_snd]
/-- The payload of the rows received. -/
theorem rest_rcv : bigSep ((ringRd P).duties (rcvCell c k) 0 \ ∅) (fun d => (ringRd P).payload (rcvCell c k) 0 d)
    = slotHolds c k (landAt P k.val c) := by
  rw [Finset.sdiff_empty, duties_rcv, bigSep_singleton, payload_rcv]

end Cells

/-! ## What a device owes, and the order of the waits -/

/-- What device `c` owes once it has nothing left of the ring but its last `j` transfers: the blocks of those to the next
    device, and one unit at the last meeting to each neighbour. -/
def owed (c : Dev nD) : ℕ → CellTallies nD τ sig Unit
  | 0 => tallyAt (endCell (nxt c)) () 1 + tallyAt (endCell (prv c)) () 1
  | j + 1 => owed c j + tallyAt (rcvCell (nxt c) ⟨13 - j, by omega⟩) () N

/-- What device `c` owes at launch. -/
def O₁ (c : Dev nD) : CellTallies nD τ sig Unit := owed c 14 + tallyAt (barCell (nxt c)) () 1
def O₀ (c : Dev nD) : CellTallies nD τ sig Unit := O₁ c + tallyAt (barCell (prv c)) () 1

/-- The cells the order of waits speaks of: the TensorCores'. -/
def L (g : GSem nD τ sig) : Finset Unit := if g.1.2 = .tc then {()} else ∅
/-- The order of the waits by what a semaphore is for. -/
def lvOf : Role → ℕ
  | .bar => 1 | .fin => 20 | .snd _ => 0 | .rcv k => 2 + k.val | .other => 0
/-- The order of the waits: staging and sending first, then the first meeting, the fourteen arrivals, the last meeting. -/
def lv (g : GSem nD τ sig) (_ : Unit) : ℕ := lvOf (role g.2)

theorem L_of_ne (g : GSem nD τ sig) (h : g.1.2 ≠ .tc) : L g = ∅ := if_neg h
theorem L_tc (c : Dev nD) (sm : SemLoc sig) : L ((c : Thread nD τ), sm) = {()} := if_pos rfl

/-- A cell a tally sum owes is one of the summands'. -/
theorem owe_add {A : CellTallies nD τ sig Unit} {g₀ g : GSem nD τ sig} {n : ℕ} {u : Unit} (h : 0 < (A + tallyAt g₀ () n) g u) :
    0 < A g u ∨ g = g₀ := by
  by_contra hn
  rw [not_or] at hn
  rw [Pi.add_apply, Finsupp.add_apply, tallyAt_apply, if_neg (fun h' => hn.2 h'.1), Nat.add_zero] at h
  exact hn.1 h
theorem owe_one {g₀ g : GSem nD τ sig} {n : ℕ} {u : Unit} (h : 0 < (tallyAt g₀ () n : CellTallies nD τ sig Unit) g u) : g = g₀ := by
  by_contra hn
  rw [tallyAt_apply, if_neg (fun h' => hn h'.1)] at h
  exact Nat.lt_irrefl 0 h

/-- What is owed with `j` transfers left: arrivals of the last `j` steps, and the last meeting. -/
theorem owed_pos {c : Dev nD} {g : GSem nD τ sig} {u : Unit} : ∀ {j : ℕ}, 0 < owed c j g u →
    (∃ e : Dev nD, g = endCell e) ∨ ∃ k : Fin 14, 14 ≤ k.val + j ∧ g = rcvCell (nxt c) k
  | 0, h => by
    rcases owe_add h with h | rfl
    · exact .inl ⟨_, owe_one h⟩
    · exact .inl ⟨_, rfl⟩
  | j + 1, h => by
    rcases owe_add h with h | rfl
    · rcases owed_pos h with h | ⟨k, hk, rfl⟩
      · exact .inl h
      · exact .inr ⟨k, by omega, rfl⟩
    · exact .inr ⟨_, by simp only; omega, rfl⟩

theorem O₀_pos {c : Dev nD} {g : GSem nD τ sig} {u : Unit} (h : 0 < O₀ c g u) : ∃ (e : Dev nD) (sm : SemLoc sig), g = ((e : Thread nD τ), sm) ∧ 0 < lvOf (role sm) := by
  rcases owe_add h with h | rfl
  · rcases owe_add h with h | rfl
    · rcases owed_pos h with ⟨e, rfl⟩ | ⟨k, -, rfl⟩
      · exact ⟨_, _, rfl, by rw [role_end]; decide⟩
      · exact ⟨_, _, rfl, by rw [role_rcv]; simp only [lvOf]; omega⟩
    · exact ⟨_, _, rfl, by rw [role_bar]; decide⟩
  · exact ⟨_, _, rfl, by rw [role_bar]; decide⟩

/-- A device may wait at a cell whose level is under those of the transfers it has still to make. -/
theorem mayWait_owed (c : Dev nD) (sm : SemLoc sig) (j : ℕ) (hj : j ≤ 14) (hsm : lvOf (role sm) < 16 - j) :
    (levAts L lv : sProp 𝕄) ⊢ MayWait (c : Thread nD τ) sm () (owed c j) :=
  MayOwe.of_cut (L := L) (lev := lv) (lvOf (role sm)) (fun p hp => by rw [Finset.mem_singleton.mp hp, L_tc]; exact Finset.mem_singleton_self _)
    (fun g u hg => by rcases owed_pos hg with ⟨e, rfl⟩ | ⟨k, -, rfl⟩ <;> (rw [L_tc]; exact Finset.mem_singleton_self _))
    (fun p hp => by rw [Finset.mem_singleton.mp hp]; exact le_refl _)
    (fun g u hg => by
      rcases owed_pos hg with ⟨e, rfl⟩ | ⟨k, hk, rfl⟩
      · unfold lv; dsimp only; rw [role_end]; simp only [lvOf] at *; omega
      · unfold lv; dsimp only; rw [role_rcv]; simp only [lvOf] at *; omega)

/-- A staging wait is below everything a device owes at launch. -/
theorem mayWait_low (c : Dev nD) (sm : SemLoc sig) (hsm : lvOf (role sm) = 0) (O : CellTallies nD τ sig Unit) (hO : O = O₀ c ∨ O = 0) :
    (levAts L lv : sProp 𝕄) ⊢ MayWait (c : Thread nD τ) sm () O := by
  rcases hO with rfl | rfl
  · exact MayOwe.of_cut (L := L) (lev := lv) 0 (fun p hp => by rw [Finset.mem_singleton.mp hp, L_tc]; exact Finset.mem_singleton_self _)
      (fun g u hg => by obtain ⟨e, sm', rfl, -⟩ := O₀_pos hg; rw [L_tc]; exact Finset.mem_singleton_self _)
      (fun p hp => by rw [Finset.mem_singleton.mp hp]; exact hsm.le)
      (fun g u hg => by obtain ⟨e, sm', rfl, h⟩ := O₀_pos hg; exact h)
  · rw [MayWait_zero]; iintro -; iempintro

end Cert.KernelIdeal.Ring8

end
-- ==== Proof.KI.Transfer.lean ====
/-
  One step of the ring, executed: the transfer of 64 rows to the next device with its two waits, then the landed block added
  to, or copied over, the device's own rows. `rs_wp` and `ag_wp` take the result buffer from `outAt P n` to `outAt P (n+1)`.
-/
module

public import proofs.«01_k».proof.Proof.KI.Protocol
public import Idealize.ShloMosaic.Lib.Pipeline.Value

@[expose] public section

set_option maxRecDepth 16384

noncomputable section

namespace Cert.KernelIdeal.Ring8

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

abbrev 𝒱₀ : Variants := Variants.none

/-- One member of a family, and the others. -/
theorem fam_take {A : Type} [DecidableEq A] {s : Finset A} {a : A} (h : a ∈ s) (Φ : A → sProp 𝕄) :
    bigSep s Φ = iprop(Φ a ∗ bigSep (s.erase a) Φ) := by rw [bigSep_erase h]; rfl
/-- One member of a family, dropping the others. -/
theorem fam_at {A : Type} [DecidableEq A] [Fintype A] (Φ : A → sProp 𝕄) (a : A) : bigSep Finset.univ Φ ⊢ Φ a :=
  bigSep_elim (Finset.mem_univ a)

/-! ## Reading what landed -/

/-- Reading a slot that a block was written to gives the block. -/
theorem slot_read (k : Fin 14) (f : wM.view.ty.Contents (Elt F)) (v : FVec F S64x1024 .f32) :
    (shapeCast S64x1024 ((wM.access (slotRect k)).read (Elt F) ((slotOf wM k).view.write (Elt F) f v Finset.univ) : FVec F S1x64x1024 .f32)
      shapeCasts_S1x64x1024_S64x1024 : FVec F S64x1024 .f32) = v :=
  View.read_write_univ (v := (slotOf wM k).view) f v

theorem slot_set (k : Fin 14) : (wM.access (slotRect k)).set = (slotOf wM k).view.set := (View.set_reshape _ _).symm

/-! ## What a device holds around a step -/

variable (P : Dev nD → OutC F) (κ : GSem nD τ sig → ℕ)

/-- The invariant of a cell. -/
abbrev Inv (g : GSem nD τ sig) : sProp 𝕄 := cellInv ER (ringRd P) (κ g) g

/-- The invariants of the cells of device `e`. -/
def invsOf (e : Dev nD) : sProp 𝕄 :=
  iprop(Inv P κ (barCell e) ∗ Inv P κ (endCell e) ∗ bigSep Finset.univ (fun k => Inv P κ (sndCell e k))
    ∗ bigSep Finset.univ (fun k => Inv P κ (rcvCell e k)))
instance invsOf_persistent (e : Dev nD) : BI.Persistent (invsOf P κ e) := by unfold invsOf; infer_instance

/-- The invariants of every cell of the ring, and the order of the waits. -/
def known : sProp 𝕄 := iprop(bigSep Finset.univ (fun e => invsOf P κ e) ∗ levAts L lv)
instance known_persistent : BI.Persistent (known P κ) := by unfold known; infer_instance

theorem known_lev : known P κ ⊢ levAts L lv := by unfold known; iintro ⟨-, H⟩; iexact H
theorem known_of (e : Dev nD) : known P κ ⊢ invsOf P κ e := by
  unfold known; iintro ⟨H, -⟩; iapply (fam_at (fun e => invsOf P κ e) e); iexact H
theorem known_bar (e : Dev nD) : known P κ ⊢ Inv P κ (barCell e) := (known_of P κ e).trans (by
  unfold invsOf; iintro ⟨H, -⟩; iexact H)
theorem known_end (e : Dev nD) : known P κ ⊢ Inv P κ (endCell e) := (known_of P κ e).trans (by
  unfold invsOf; iintro ⟨-, H, -⟩; iexact H)
theorem known_snd (e : Dev nD) (k : Fin 14) : known P κ ⊢ Inv P κ (sndCell e k) := (known_of P κ e).trans (by
  unfold invsOf; iintro ⟨-, -, H, -⟩
  iapply (fam_at (fun k => Inv P κ (sndCell e k)) k); iexact H)
theorem known_rcv (e : Dev nD) (k : Fin 14) : known P κ ⊢ Inv P κ (rcvCell e k) := (known_of P κ e).trans (by
  unfold invsOf; iintro ⟨-, -, -, H⟩
  iapply (fam_at (fun k => Inv P κ (rcvCell e k)) k); iexact H)

/-- The result buffer of device `c`. -/
def oPts (c : Dev nD) (f : OutC F) : sProp 𝕄 := oM.view.loc (c : Thread nD τ) ↦{fullShare} f

/-- What step `k` of device `c` consumes: the tokens of its send and of the next device's arrival, its positions, the credit
    of its own arrival, and the next device's slot. -/
def todo (c : Dev nD) (k : Fin 14) : sProp 𝕄 :=
  iprop(dutyTok ER (sndCell c k) 0 false ∗ dutyTok ER (rcvCell (nxt c) k) 0 false
    ∗ reached ER (sndCell c k) 0 ∗ reached ER (rcvCell (nxt c) k) 0
    ∗ atPos ER (sndCell c k) 0 ∅ 0 ∗ atPos ER (rcvCell c k) 0 ∅ 0 ∗ cred (tallyAt (rcvCell c k) () N) ∗ slotFree (nxt c) k)
/-- What step `k` leaves: its positions past their round, and its own slot. -/
def done (c : Dev nD) (k : Fin 14) : sProp 𝕄 :=
  iprop(atPos ER (sndCell c k) 1 ∅ 0 ∗ atPos ER (rcvCell c k) 1 ∅ 0 ∗ slotFree c k)

/-- Owing `O`, whatever was waited for. -/
def owing (c : Dev nD) (O : CellTallies nD τ sig Unit) : sProp 𝕄 := iprop(∃ W, owes (c : Thread nD τ) O W)

/-- The rule of the transfer at the ring's cells. -/
theorem send_wp (c n : Dev nD) (hn : n = nxt c) (k : Fin 14) (j : ℕ) (hj : 13 - j = k.val) (off : Fin 2 → ℕ) (h : RowInb off) (hoff : off = sendOff k.val c)
    {hsc : (slotOf wM k : Memref sig (Dev.tc n : Thread nD τ).2.kind .vmem S64x1024 .f32).view.ref.isScScratch = false}
    {hsrc : (rowsOf oM off h).view.WordExact} {hdst : (slotOf wM k).view.WordExact}
    {hsem : DmaTarget.Typed .vmem (.dma (rcvS k)) (.remote (Dev.tc n : Thread nD τ) (slotOf wM k : Memref sig (Dev.tc n : Thread nD τ).2.kind .vmem S64x1024 .f32) (.dma (sndS k)) hsc)}
    {α : Type} {Q : α → sProp 𝕄} {kt : PUnit → Prog (TpuEff nD τ sig (Elt F) Λ₀ .tc) α}
    (fd : Buf (Elt F) ((slotOf wM k).view.loc (nxt c : Thread nD τ))) (W : Waits sig Unit) :
    iprop(Inv P κ (sndCell c k) ∗ Inv P κ (rcvCell (nxt c) k)
        ∗ sentRows P c k ∗ ((slotOf wM k).view.loc (nxt c : Thread nD τ) ↦[(slotOf wM k).view.set]{fullShare} fd)
        ∗ owes (c : Thread nD τ) (owed c (j + 1)) W
        ∗ dutyTok ER (sndCell c k) 0 false ∗ reached ER (sndCell c k) 0
        ∗ dutyTok ER (rcvCell (nxt c) k) 0 false ∗ reached ER (rcvCell (nxt c) k) 0)
      ⊢ iprop(((cred (tallyAt (sndCell c k) () N) ∗ owes (c : Thread nD τ) (owed c j) W) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (rowsOf oM off h) (.remote (Dev.tc n : Thread nD τ) (slotOf wM k) (.dma (sndS k)) hsc) (.dma (rcvS k)) hsrc hdst hsem) kt) Q) := by
  subst hn
  subst hoff
  have hk : (⟨13 - j, by omega⟩ : Fin 14) = k := Fin.ext hj
  unfold sentRows
  exact Rounds.wp_send_pointsTo 𝒱₀ ER (ringRd P) (c : Thread nD τ) none (κ₁ := κ (sndCell c k)) (κ₂ := κ (rcvCell (nxt c) k))
    (r₁ := 0) (r₂ := 0) (d₁ := false) (d₂ := false) (fd := fd)
    (by rw [duties_snd]; exact Finset.mem_singleton_self _) (by rw [duties_rcv]; exact Finset.mem_singleton_self _)
    () () N (N_rcv k k) (amount_snd P c k false) (amount_rcv P (nxt c) k false) (owed c j) (by rw [owed, hk]) (W := W)
    (by rw [payload_snd]; exact BI.Entails.refl _)
    (by
      rw [payload_rcv]; unfold slotHolds landAt; rw [prv_nxt]
      iintro H; iexists fd; iexact H)

/-- A transfer, from the rows sent to the block landed. -/
theorem xfer_wp (c n : Dev nD) (hn : n = nxt c) (k : Fin 14) (j : ℕ) (hj : 13 - j = k.val) (hj' : j ≤ 13) (off : Fin 2 → ℕ) (h : RowInb off)
    (hoff : off = sendOff k.val c) :
    iprop(known P κ ∗ oPts c (outAt P k.val c) ∗ todo c k ∗ owing c (owed c (j + 1)))
      ⊢ wp frame (wpE (defs₀ (F := F)) 𝒱₀ (c : Thread nD τ) none) Set.univ (xfer oM wM cc0_scratch1 cc0_scratch2 n k off h)
          (fun _ => iprop(oPts c (outAt P k.val c)
            ∗ (atPos ER (sndCell c k) 1 ∅ 0 ∗ atPos ER (rcvCell c k) 1 ∅ 0 ∗ slotHolds c k (landAt P k.val c)) ∗ owing c (owed c j))) := by
  unfold xfer
  simp only [Prog.lift, Prog.bind_op, Prog.bind_ret, Prog.pure_eq_ret]
  unfold todo owing oPts
  iintro ⟨#Hk, Ho, ⟨HtS, HtR, #HrS, #HrR, HaS, HaR, Hc, Hslot⟩, ⟨%W, HO⟩⟩
  unfold slotFree
  icases Hslot with ⟨%fd, Hslot⟩
  ihave Ho := (pointsTo_split_subset (ℓ := oM.view.loc (c : Thread nD τ)) (I := (sendRows k.val c).view.set) (S := Finset.univ) (Finset.subset_univ _)).1 $$ Ho
  icases Ho with ⟨Hrows, Hrest⟩
  iapply (send_wp P κ c n hn k j hj off h hoff fd W) $$ [Hrows Hslot HO HtS HtR]
  · isplitr; · iapply (known_snd P κ c k); iexact Hk
    isplitr; · iapply (known_rcv P κ (nxt c) k); iexact Hk
    isplitl [Hrows]; · unfold sentRows; iexact Hrows
    isplitl [Hslot]; · iexact Hslot
    isplitl [HO]; · iexact HO
    isplitl [HtS]; · iexact HtS
    isplitr; · iexact HrS
    isplitl [HtR]; · iexact HtR
    iexact HrR
  iintro ⟨HcS, HO⟩
  iapply (Rounds.wp_wait_rest_token 𝒱₀ ER (ringRd P) (c : Thread nD τ) none (κ := κ (sndCell c k))
      (wpE_waitDma2_eq 𝒱₀ (c : Thread nD τ) none Set.univ) (Set.mem_univ _) () (O := owed c j) (W := W) (R := 0) (m := 0) (T := ∅)
      (by rw [Nat.zero_add, expect_snd])) $$ [HcS HO HaS]
  · isplitr; · iapply (known_snd P κ c k); iexact Hk
    isplitl [HcS]; · iexact HcS
    isplitl [HO]; · iexact HO
    isplitr
    · iapply (mayWait_owed c _ j (by omega) (by rw [role_snd]; simp only [lvOf]; omega)); iapply (known_lev P κ); iexact Hk
    iexact HaS
  iintro ⟨HO, HaS, -, Hpay⟩
  ihave Hrows := (Entails.of_eq (rest_snd P c k)) $$ Hpay
  unfold sentRows
  ihave Ho := (pointsTo_split_subset (ℓ := oM.view.loc (c : Thread nD τ)) (I := (sendRows k.val c).view.set) (S := Finset.univ) (Finset.subset_univ _)).2 $$ [Hrows Hrest]
  · isplitl [Hrows] <;> iassumption
  iapply (Rounds.wp_wait_rest_token 𝒱₀ ER (ringRd P) (c : Thread nD τ) none (κ := κ (rcvCell c k))
      (wpE_waitDma2_eq 𝒱₀ (c : Thread nD τ) none Set.univ) (Set.mem_univ _) () (O := owed c j) (W := _) (R := 0) (m := 0) (T := ∅)
      (by rw [Nat.zero_add, expect_rcv])) $$ [Hc HO HaR]
  · isplitr; · iapply (known_rcv P κ c k); iexact Hk
    isplitl [Hc]; · iexact Hc
    isplitl [HO]; · iexact HO
    isplitr
    · iapply (mayWait_owed c _ j (by omega) (by rw [role_rcv]; simp only [lvOf]; omega)); iapply (known_lev P κ); iexact Hk
    iexact HaR
  iintro ⟨HO, HaR, -, Hpay⟩
  ihave Hland := (Entails.of_eq (rest_rcv P c k)) $$ Hpay
  rw [wp_ret]; imodintro
  isplitl [Ho]; · iexact Ho
  isplitl [HaS HaR Hland]
  · isplitl [HaS]; · iexact HaS
    isplitl [HaR]; · iexact HaR
    iexact Hland
  iexists _; iexact HO

/-- The landed block added into the device's rows. -/
theorem add_wp (c : Dev nD) (k : Fin 14) (hk : k.val < 7) (off : Fin 2 → ℕ) (h : RowInb off) (hoff : off = recvOff k.val c) (f : OutC F) (v : FVec F S64x1024 .f32) :
    iprop(oPts c f ∗ slotHolds c k v)
      ⊢ wp frame (wpE (defs₀ (F := F)) 𝒱₀ (c : Thread nD τ) none) Set.univ (addStep oM wM k off h)
          (fun _ => iprop(oPts c (stepOut k.val c f v) ∗ slotFree c k)) := by
  subst hoff
  unfold addStep
  simp only [Prog.lift, Prog.bind_op, Prog.bind_ret, Prog.pure_eq_ret]
  unfold oPts slotHolds
  iintro ⟨Ho, ⟨%g, Hs⟩⟩
  iapply (wp_load_rect 𝒱₀ (c : Thread nD τ) none Set.univ (m := oM) (r := rowRect (recvOff k.val c) (recvOff_inb k.val c)) (Finset.subset_univ _)) $$ Ho; iintro Ho
  iapply (wp_load_rect 𝒱₀ (c : Thread nD τ) none Set.univ (m := wM) (r := slotRect k) (slot_set k).subset) $$ Hs; iintro Hs
  iapply (wp_load_rect 𝒱₀ (c : Thread nD τ) none Set.univ (m := oM) (r := rowRect (recvOff k.val c) (recvOff_inb k.val c)) (Finset.subset_univ _)) $$ Ho; iintro Ho
  iapply (wp_store 𝒱₀ (c : Thread nD τ) none Set.univ (m := oM) (r := rowRect (recvOff k.val c) (recvOff_inb k.val c)) (Mk := Finset.univ) (Finset.subset_univ _)) $$ Ho; iintro Ho
  rw [wp_ret]; imodintro
  isplitl [Ho]
  · rw [show stepOut k.val c f v = (recvRows k.val c).write (Elt F) f (k0_pay19 ((recvRows k.val c).read (Elt F) f)
      ((wM.access (slotRect k)).read (Elt F) ((slotOf wM k).view.write (Elt F) g v Finset.univ))) Finset.univ from by
        unfold stepOut k0_pay19; rw [if_pos hk]; simp only; rw [slot_read, shapeCast_self]]
    iexact Ho
  unfold slotFree; iexists _; iexact Hs

/-- The landed block copied over the device's rows. -/
theorem copy_wp (c : Dev nD) (k : Fin 14) (hk : ¬ k.val < 7) (off : Fin 2 → ℕ) (h : RowInb off) (hoff : off = recvOff k.val c) (f : OutC F) (v : FVec F S64x1024 .f32) :
    iprop(oPts c f ∗ slotHolds c k v)
      ⊢ wp frame (wpE (defs₀ (F := F)) 𝒱₀ (c : Thread nD τ) none) Set.univ (copyStep oM wM k off h)
          (fun _ => iprop(oPts c (stepOut k.val c f v) ∗ slotFree c k)) := by
  subst hoff
  unfold copyStep
  simp only [Prog.lift, Prog.bind_op, Prog.bind_ret, Prog.pure_eq_ret]
  unfold oPts slotHolds
  iintro ⟨Ho, ⟨%g, Hs⟩⟩
  iapply (wp_load_rect 𝒱₀ (c : Thread nD τ) none Set.univ (m := wM) (r := slotRect k) (slot_set k).subset) $$ Hs; iintro Hs
  iapply (wp_load_rect 𝒱₀ (c : Thread nD τ) none Set.univ (m := oM) (r := rowRect (recvOff k.val c) (recvOff_inb k.val c)) (Finset.subset_univ _)) $$ Ho; iintro Ho
  iapply (wp_store 𝒱₀ (c : Thread nD τ) none Set.univ (m := oM) (r := rowRect (recvOff k.val c) (recvOff_inb k.val c)) (Mk := Finset.univ) (Finset.subset_univ _)) $$ Ho; iintro Ho
  rw [wp_ret]; imodintro
  isplitl [Ho]
  · rw [show stepOut k.val c f v = (recvRows k.val c).write (Elt F) f (k0_pay26
      ((wM.access (slotRect k)).read (Elt F) ((slotOf wM k).view.write (Elt F) g v Finset.univ))) Finset.univ from by
        unfold stepOut k0_pay26; rw [if_neg hk]; simp only; rw [slot_read]]
    iexact Ho
  unfold slotFree; iexists _; iexact Hs

/-- What device `c` holds before step `n` of the ring. -/
def atStep (n : ℕ) (c : Dev nD) : sProp 𝕄 :=
  iprop(known P κ ∗ oPts c (outAt P n c) ∗ bigSep Finset.univ (fun k : Fin 14 => if k.val < n then done c k else todo c k)
    ∗ owing c (owed c (14 - n)))

/-- The resources of step `k`, out of those of all the steps, and back after it. -/
theorem atStep_take (c : Dev nD) (k : Fin 14) :
    bigSep Finset.univ (fun i : Fin 14 => if i.val < k.val then (done c i : sProp 𝕄) else todo c i)
      ⊢ iprop(todo c k ∗ (done c k -∗ bigSep Finset.univ (fun i : Fin 14 => if i.val < k.val + 1 then (done c i : sProp 𝕄) else todo c i))) := by
  rw [fam_take (Finset.mem_univ k), if_neg (lt_irrefl _), fam_take (Finset.mem_univ k) (fun i : Fin 14 => if i.val < k.val + 1 then (done c i : sProp 𝕄) else todo c i),
    if_pos (Nat.lt_succ_self _), bigSep_congr (Φ := fun i : Fin 14 => if i.val < k.val then (done c i : sProp 𝕄) else todo c i)
      (Ψ := fun i : Fin 14 => if i.val < k.val + 1 then (done c i : sProp 𝕄) else todo c i) (fun i hi => by
      have : i.val ≠ k.val := fun h => Finset.ne_of_mem_erase hi (Fin.ext h)
      by_cases h : i.val < k.val
      · rw [if_pos h, if_pos (by omega)]
      · rw [if_neg h, if_neg (by omega)])]
  iintro ⟨H, Hr⟩
  isplitl [H]; · iexact H
  iintro Hd
  isplitl [Hd] <;> iassumption

/-- A step of the ring that is a transfer followed by a use of the landed block. -/
theorem step_wp (c n : Dev nD) (hn : n = nxt c) (k : Fin 14) (off : Fin 2 → ℕ) (h : RowInb off) (hoff : off = sendOff k.val c)
    (use : TcProg F PUnit)
    (huse : ∀ (f : OutC F) (v : FVec F S64x1024 .f32), iprop(oPts c f ∗ slotHolds c k v)
      ⊢ wp frame (wpE (defs₀ (F := F)) 𝒱₀ (c : Thread nD τ) none) Set.univ use (fun _ => iprop(oPts c (stepOut k.val c f v) ∗ slotFree c k))) :
    atStep P κ k.val c
      ⊢ wp frame (wpE (defs₀ (F := F)) 𝒱₀ (c : Thread nD τ) none) Set.univ (xfer oM wM cc0_scratch1 cc0_scratch2 n k off h >>= fun _ => use)
          (fun _ => atStep P κ (k.val + 1) c) := by
  have hk := k.isLt
  unfold atStep
  rw [wp_bind, show 14 - k.val = (13 - k.val) + 1 from by omega]
  iintro ⟨#Hk, Ho, Hall, HO⟩
  ihave Hall := (atStep_take c k) $$ Hall
  icases Hall with ⟨Htodo, Hback⟩
  iapply (wp_wand_r _ _ _)
  isplitl [Ho Htodo HO]
  · iapply (xfer_wp P κ c n hn k (13 - k.val) (by omega) (by omega) off h hoff)
    isplitr; · iexact Hk
    isplitl [Ho]; · iexact Ho
    isplitl [Htodo] <;> iassumption
  iintro %_ ⟨Ho, ⟨HaS, HaR, Hland⟩, HO⟩
  iapply (wp_wand_r _ _ _)
  isplitl [Ho Hland]
  · iapply (huse _ _)
    isplitl [Ho] <;> iassumption
  iintro %_ ⟨Ho, Hslot⟩
  isplitr; · iexact Hk
  isplitl [Ho]; · rw [outAt_succ]; iexact Ho
  isplitr [HO]
  · iapply Hback
    unfold done
    isplitl [HaS]; · iexact HaS
    isplitl [HaR] <;> iassumption
  rw [show 14 - (k.val + 1) = 13 - k.val from by omega]
  iexact HO

/-- A step of the first seven. -/
theorem rs_wp (c : Dev nD) (s : Fin 7) :
    atStep P κ s.val c ⊢ wp frame (wpE (defs₀ (F := F)) 𝒱₀ (c : Thread nD τ) none) Set.univ (rsStep oM wM cc0_scratch1 cc0_scratch2 c s)
      (fun _ => atStep P κ (s.val + 1) c) :=
  step_wp P κ c _ rfl ⟨s.val, by omega⟩ _ _ (off1_eq c s) _ (fun f v => add_wp c ⟨s.val, by omega⟩ s.isLt _ _ (off2_eq c s) f v)

/-- A step of the last seven. -/
theorem ag_wp (c : Dev nD) (t : Fin 7) :
    atStep P κ (7 + t.val) c ⊢ wp frame (wpE (defs₀ (F := F)) 𝒱₀ (c : Thread nD τ) none) Set.univ (agStep oM wM cc0_scratch1 cc0_scratch2 c t)
      (fun _ => atStep P κ (7 + t.val + 1) c) :=
  step_wp P κ c _ rfl ⟨7 + t.val, by omega⟩ _ _ (off3_eq c t) _
    (fun f v => copy_wp c ⟨7 + t.val, by omega⟩ (by simp only; omega) _ _ (off4_eq c t) f v)

end Cert.KernelIdeal.Ring8

end
-- ==== Proof.KI.Body.lean ====
/-
  The body of the kernel, executed at a symbolic device: the first meeting, the device's own product, the fourteen steps of
  the ring, the last meeting. `body_wp` says what it consumes and what it leaves.
-/
module

public import proofs.«01_k».proof.Proof.KI.Transfer
public import Idealize.ShloMosaic.Lib.ViewIndex
public import Idealize.ShloMosaic.Lib.Rounds.Family

@[expose] public section

set_option maxRecDepth 16384

noncomputable section

namespace Cert.KernelIdeal.Ring8

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (P : Dev nD → OutC F) (κ : GSem nD τ sig → ℕ)

/-! ## The two meetings -/

/-- What a meeting of device `c` on a semaphore consumes beside the payloads. -/
def meetRes (c : Dev nD) (g : Dev nD → GSem nD τ sig) : sProp 𝕄 :=
  iprop(dutyTok ER (g (prv c)) 0 true ∗ dutyTok ER (g (nxt c)) 0 false ∗ atPos ER (g c) 0 ∅ 0 ∗ cred (tallyAt (g c) () 2))

/-- The meeting before the ring: the neighbours' receive buffer and cells come, the device's own go. -/
theorem meet_bar_wp (c l r : Dev nD) (hl : l = prv c) (hr : r = nxt c) :
    iprop(known P κ ∗ meetRes c barCell ∗ (reached ER (barCell (prv c)) 0 ∗ reached ER (barCell (nxt c)) 0)
        ∗ (bigSep Finset.univ (fun k => slotFree c k) ∗ bigSep Finset.univ (fun k => reached ER (rcvCell c k) 0) ∗ reached ER (endCell c) 0)
        ∗ owing c (O₀ c))
      ⊢ wp frame (wpE (defs₀ (F := F)) 𝒱₀ (c : Thread nD τ) none) Set.univ (meet barS l r)
          (fun _ => iprop(semVal (barCell c) 0 ∗ fromPrev c ∗ fromNext c ∗ owing c (owed c 14))) := by
  subst hl hr
  unfold meet
  simp only [semSignalWord, semWaitWord, Prog.lift, Prog.bind_op, Prog.bind_ret, Prog.pure_eq_ret]
  unfold meetRes owing
  iintro ⟨#Hk, ⟨HtP, HtN, Hat, Hc⟩, ⟨#HrP, #HrN⟩, ⟨Hslots, Hrcvs, #Hre⟩, ⟨%W, HO⟩⟩
  iapply (Rounds.wp_signal 𝒱₀ ER (ringRd P) (c : Thread nD τ) none (dst := (prv c : Thread nD τ)) (κ := κ (barCell (prv c)))
      (d := true) (by rw [duties_bar]; exact Finset.mem_univ _) ((amount_bar P (prv c) true).trans (by decide)) () (O₁ c) rfl)
    $$ [HO HtP Hslots Hrcvs]
  · isplitr; · iapply (known_bar P κ (prv c)); iexact Hk
    isplitl [HO]; · iexact HO
    isplitl [HtP]; · iexact HtP
    isplitl [Hslots Hrcvs]
    · rw [payload_bar, if_pos rfl]; unfold fromNext; rw [nxt_prv]
      isplitl [Hslots]; · iexact Hslots
      isplitl [Hrcvs]; · iexact Hrcvs
      iexact Hre
    iexact HrP
  iintro HO
  iapply (Rounds.wp_signal 𝒱₀ ER (ringRd P) (c : Thread nD τ) none (dst := (nxt c : Thread nD τ)) (κ := κ (barCell (nxt c)))
      (d := false) (by rw [duties_bar]; exact Finset.mem_univ _) ((amount_bar P (nxt c) false).trans (by decide)) () (owed c 14) rfl)
    $$ [HO HtN]
  · isplitr; · iapply (known_bar P κ (nxt c)); iexact Hk
    isplitl [HO]; · iexact HO
    isplitl [HtN]; · iexact HtN
    isplitr
    · rw [payload_bar, if_neg (by decide)]; unfold fromPrev; rw [prv_nxt]; iexact Hre
    iexact HrN
  iintro HO
  iapply (Rounds.wp_wait_rest_token 𝒱₀ ER (ringRd P) (c : Thread nD τ) none (κ := κ (barCell c))
      (wpE_semWait_eq 𝒱₀ (c : Thread nD τ) none Set.univ) (Set.mem_univ _) () (O := owed c 14) (W := W) (R := 0) (m := 0) (T := ∅)
      (by rw [Nat.zero_add, expect_bar]; decide)) $$ [Hc HO Hat]
  · isplitr; · iapply (known_bar P κ c); iexact Hk
    isplitl [Hc]; · iexact Hc
    isplitl [HO]; · iexact HO
    isplitr
    · iapply (mayWait_owed c _ 14 (le_refl _) (by rw [role_bar]; decide)); iapply (known_lev P κ); iexact Hk
    iexact Hat
  iintro ⟨HO, Hat, -, Hpay⟩
  ihave Hpay := (Entails.of_eq (rest_bar P c)) $$ Hpay
  icases Hpay with ⟨HfP, HfN⟩
  imod (Rounds.cell_close ER (ringRd P) (Set.mem_univ (κ (barCell c))) (fun h => h) (R := 0 + 1) (duties_later P (barCell c))) $$ [Hat] with Hv
  · isplitr; · iapply (known_bar P κ c); iexact Hk
    iexact Hat
  rw [wp_ret]; imodintro
  isplitl [Hv]; · iexact Hv
  isplitl [HfP]; · iexact HfP
  isplitl [HfN]; · iexact HfN
  iexists _; iexact HO

/-- The meeting after the ring. -/
theorem meet_end_wp (c l r : Dev nD) (hl : l = prv c) (hr : r = nxt c) :
    iprop(known P κ ∗ meetRes c endCell ∗ (reached ER (endCell (prv c)) 0 ∗ reached ER (endCell (nxt c)) 0) ∗ owing c (owed c 0))
      ⊢ wp frame (wpE (defs₀ (F := F)) 𝒱₀ (c : Thread nD τ) none) Set.univ (meet endS l r)
          (fun _ => iprop(semVal (endCell c) 0 ∗ owing c 0)) := by
  subst hl hr
  unfold meet
  simp only [semSignalWord, semWaitWord, Prog.lift, Prog.bind_op, Prog.bind_ret, Prog.pure_eq_ret]
  unfold meetRes owing
  iintro ⟨#Hk, ⟨HtP, HtN, Hat, Hc⟩, ⟨#HrP, #HrN⟩, ⟨%W, HO⟩⟩
  iapply (Rounds.wp_signal 𝒱₀ ER (ringRd P) (c : Thread nD τ) none (dst := (prv c : Thread nD τ)) (κ := κ (endCell (prv c)))
      (d := true) (by rw [duties_end]; exact Finset.mem_univ _) ((amount_end P (prv c) true).trans (by decide)) () (tallyAt (endCell (nxt c)) () 1) rfl)
    $$ [HO HtP]
  · isplitr; · iapply (known_end P κ (prv c)); iexact Hk
    isplitl [HO]; · iexact HO
    isplitl [HtP]; · iexact HtP
    isplitr; · rw [payload_end]; iempintro
    iexact HrP
  iintro HO
  iapply (Rounds.wp_signal 𝒱₀ ER (ringRd P) (c : Thread nD τ) none (dst := (nxt c : Thread nD τ)) (κ := κ (endCell (nxt c)))
      (d := false) (by rw [duties_end]; exact Finset.mem_univ _) ((amount_end P (nxt c) false).trans (by decide)) () 0
      (zero_add _).symm)
    $$ [HO HtN]
  · isplitr; · iapply (known_end P κ (nxt c)); iexact Hk
    isplitl [HO]; · iexact HO
    isplitl [HtN]; · iexact HtN
    isplitr; · rw [payload_end]; iempintro
    iexact HrN
  iintro HO
  iapply (Rounds.wp_wait_rest_token 𝒱₀ ER (ringRd P) (c : Thread nD τ) none (κ := κ (endCell c))
      (wpE_semWait_eq 𝒱₀ (c : Thread nD τ) none Set.univ) (Set.mem_univ _) () (O := 0) (W := W) (R := 0) (m := 0) (T := ∅)
      (by rw [Nat.zero_add, expect_end]; decide)) $$ [Hc HO Hat]
  · isplitr; · iapply (known_end P κ c); iexact Hk
    isplitl [Hc]; · iexact Hc
    isplitl [HO]; · iexact HO
    isplitr; · rw [MayWait_zero]; iempintro
    iexact Hat
  iintro ⟨HO, Hat, -, -⟩
  imod (Rounds.cell_close ER (ringRd P) (Set.mem_univ (κ (endCell c))) (fun h => h) (R := 0 + 1) (duties_later P (endCell c))) $$ [Hat] with Hv
  · isplitr; · iapply (known_end P κ c); iexact Hk
    iexact Hat
  rw [wp_ret]; imodintro
  isplitl [Hv]; · iexact Hv
  iexists _; iexact HO

/-! ## The device's own product -/

/-- The staged buffers' contents types, as the body reads them. -/
abbrev xM : Memref sig .tc .vmem S512x1024 .bf16 := Memref.whole cc0_stg0_0
abbrev wqM : Memref sig .tc .vmem S1024x1024 .bf16 := Memref.whole cc0_stg1_0
abbrev woM : Memref sig .tc .vmem S1024x1024 .bf16 := Memref.whole cc0_stg2_0
abbrev kM : Memref sig .tc .vmem S2048x8x128 .bf16 := Memref.whole cc0_stg3_0
abbrev vM : Memref sig .tc .vmem S2048x8x128 .bf16 := Memref.whole cc0_stg4_0

/-- A whole VMEM buffer of device `c`. -/
abbrev bPts (c : Dev nD) (b : Ref sig .tc) (X : b.ty.Contents (Elt F)) : sProp 𝕄 := ((c : Thread nD τ).loc b) ↦{fullShare} X

/-- Head `h` of the keys and of the values. -/
def headsOf (K : (cc0_stg3_0 : Ref sig .tc).ty.Contents (Elt F)) (V : (cc0_stg4_0 : Ref sig .tc).ty.Contents (Elt F)) (h : Fin 8) :
    Vec F S2048x1x128 .bf16 × Vec F S2048x1x128 .bf16 :=
  ((kM.access (headRect h)).read (Elt F) K, (vM.access (headRect h)).read (Elt F) V)

/-- The device's partial product, from the five operands. -/
def partOf (x : (cc0_stg0_0 : Ref sig .tc).ty.Contents (Elt F)) (wq : (cc0_stg1_0 : Ref sig .tc).ty.Contents (Elt F))
    (wo : (cc0_stg2_0 : Ref sig .tc).ty.Contents (Elt F))
    (K : (cc0_stg3_0 : Ref sig .tc).ty.Contents (Elt F)) (V : (cc0_stg4_0 : Ref sig .tc).ty.Contents (Elt F)) : OutC F :=
  partVal x wq (headsOf K V) wo

/-- The loads of a head. -/
theorem head_wp (c : Dev nD) (K : (cc0_stg3_0 : Ref sig .tc).ty.Contents (Elt F)) (V : (cc0_stg4_0 : Ref sig .tc).ty.Contents (Elt F)) (h : Fin 8)
    {α : Type} (kt : Vec F S2048x1x128 .bf16 × Vec F S2048x1x128 .bf16 → TcProg F α) (Q : α → sProp 𝕄) :
    iprop(bPts c cc0_stg3_0 K ∗ bPts c cc0_stg4_0 V)
      ⊢ iprop(((bPts c cc0_stg3_0 K ∗ bPts c cc0_stg4_0 V) -∗ wp frame (wpE (defs₀ (F := F)) 𝒱₀ (c : Thread nD τ) none) Set.univ (kt (headsOf K V h)) Q)
        -∗ wp frame (wpE (defs₀ (F := F)) 𝒱₀ (c : Thread nD τ) none) Set.univ (loadHead kM vM h >>= kt) Q) := by
  unfold loadHead
  simp only [Prog.lift, Prog.bind_op, Prog.bind_ret, Prog.pure_eq_ret]
  iintro ⟨HK, HV⟩ Hk
  iapply (wp_load_rect 𝒱₀ (c : Thread nD τ) none Set.univ (m := kM) (r := headRect h) (Finset.subset_univ _)) $$ HK; iintro HK
  iapply (wp_load_rect 𝒱₀ (c : Thread nD τ) none Set.univ (m := vM) (r := headRect h) (Finset.subset_univ _)) $$ HV; iintro HV
  iapply Hk
  isplitl [HK] <;> iassumption

theorem offs_zero : (![0, 0] : Fin 2 → ℕ) = fun _ => 0 := by decide

theorem eight_heads (K : (cc0_stg3_0 : Ref sig .tc).ty.Contents (Elt F)) (V : (cc0_stg4_0 : Ref sig .tc).ty.Contents (Elt F)) :
    (![headsOf K V 0, headsOf K V 1, headsOf K V 2, headsOf K V 3, headsOf K V 4, headsOf K V 5, headsOf K V 6, headsOf K V 7] : Fin 8 → _)
      = headsOf K V := by
  funext h; fin_cases h <;> rfl

/-- What the body's own work consumes and gives back. -/
def operands (c : Dev nD) (x : (cc0_stg0_0 : Ref sig .tc).ty.Contents (Elt F)) (wq : (cc0_stg1_0 : Ref sig .tc).ty.Contents (Elt F))
    (wo : (cc0_stg2_0 : Ref sig .tc).ty.Contents (Elt F))
    (K : (cc0_stg3_0 : Ref sig .tc).ty.Contents (Elt F)) (V : (cc0_stg4_0 : Ref sig .tc).ty.Contents (Elt F)) : sProp 𝕄 :=
  iprop(bPts c cc0_stg0_0 x ∗ bPts c cc0_stg1_0 wq ∗ bPts c cc0_stg2_0 wo ∗ bPts c cc0_stg3_0 K ∗ bPts c cc0_stg4_0 V)

/-- The device's own product is left in the result buffer. -/
theorem compute_wp (c : Dev nD) (x wq wo K V) :
    iprop(operands c x wq wo K V ∗ ∃ f, oPts c f)
      ⊢ wp frame (wpE (defs₀ (F := F)) 𝒱₀ (c : Thread nD τ) none) Set.univ (compute xM wqM woM kM vM oM)
          (fun _ => iprop(operands c x wq wo K V ∗ oPts c (partOf x wq wo K V))) := by
  unfold operands
  iintro ⟨⟨Hx, Hwq, Hwo, HK, HV⟩, ⟨%f, Ho⟩⟩
  ihave H := (show iprop(bPts c cc0_stg3_0 K ∗ bPts c cc0_stg4_0 V) ⊢ iprop(bPts c cc0_stg3_0 K ∗ bPts c cc0_stg4_0 V) from BIBase.Entails.refl) $$ [HK HV]
  · isplitl [HK] <;> iassumption
  unfold compute
  simp only [Prog.lift, Prog.bind_op, Prog.bind_ret, Prog.pure_eq_ret]
  unfold oPts
  iapply (wp_load 𝒱₀ (c : Thread nD τ) none Set.univ (m := xM) (r := wholeRect.toLoadRect) (Finset.subset_univ _)) $$ Hx; iintro Hx
  iapply (wp_load 𝒱₀ (c : Thread nD τ) none Set.univ (m := wqM) (r := wholeRectW.toLoadRect) (Finset.subset_univ _)) $$ Hwq; iintro Hwq
  iapply (head_wp c K V 0) $$ H; iintro H
  iapply (head_wp c K V 1) $$ H; iintro H
  iapply (head_wp c K V 2) $$ H; iintro H
  iapply (head_wp c K V 3) $$ H; iintro H
  iapply (head_wp c K V 4) $$ H; iintro H
  iapply (head_wp c K V 5) $$ H; iintro H
  iapply (head_wp c K V 6) $$ H; iintro H
  iapply (head_wp c K V 7) $$ H; iintro H
  iapply (wp_load 𝒱₀ (c : Thread nD τ) none Set.univ (m := woM) (r := wholeRectW.toLoadRect) (Finset.subset_univ _)) $$ Hwo; iintro Hwo
  iapply (wp_load 𝒱₀ (c : Thread nD τ) none Set.univ (m := oM) (r := wholeRect.toLoadRect) (Finset.subset_univ _)) $$ Ho; iintro Ho
  iapply (wp_store 𝒱₀ (c : Thread nD τ) none Set.univ (m := oM) (r := wholeRect) (Mk := Finset.univ) (Finset.subset_univ _)) $$ Ho; iintro Ho
  rw [wp_ret]; imodintro
  icases H with ⟨HK, HV⟩
  isplitl [Hx Hwq Hwo HK HV]
  · isplitl [Hx]; · iexact Hx
    isplitl [Hwq]; · iexact Hwq
    isplitl [Hwo]; · iexact Hwo
    isplitl [HK]; · iexact HK
    iexact HV
  rw [show (oM.access wholeRect).write (Elt F) f (partVal (xM.view.readAt (Elt F) wholeRect.toLoadRect x) (wqM.view.readAt (Elt F) wholeRectW.toLoadRect wq)
      ![headsOf K V 0, headsOf K V 1, headsOf K V 2, headsOf K V 3, headsOf K V 4, headsOf K V 5, headsOf K V 6, headsOf K V 7]
      (woM.view.readAt (Elt F) wholeRectW.toLoadRect wo)) Finset.univ = partOf x wq wo K V from by
    rw [show xM.view.readAt (Elt F) wholeRect.toLoadRect x = x from Memref.readAt_unit_zero (Elt F) cc0_stg0_0 offs_zero _ x,
      show wqM.view.readAt (Elt F) wholeRectW.toLoadRect wq = wq from Memref.readAt_unit_zero (Elt F) cc0_stg1_0 offs_zero _ wq,
      show woM.view.readAt (Elt F) wholeRectW.toLoadRect wo = wo from Memref.readAt_unit_zero (Elt F) cc0_stg2_0 offs_zero _ wo,
      eight_heads]
    exact Memref.write_access_unit_zero_univ (Elt F) cc0_stg5_0 offs_zero _ f _]
  iexact Ho

/-! ## The receive buffer as fourteen slots -/

/-- The elements of slot `k`. -/
abbrev slotSet (k : Fin 14) : Finset (Idx (nD := nD) (τ := τ) (sig := sig) (wM.view.loc (0 : Dev nD))) := (slotOf wM k).view.set

theorem slots_disjoint (c : Dev nD) (k k' : Fin 14) (h : k ≠ k') : Disjoint ((slotOf wM k).view.set) ((slotOf wM k').view.set) := by
  rw [← slot_set, ← slot_set]
  refine Idealize.ShloMosaic.View.disjoint_slice (Rect.unit_disjoint (0 : Fin 3) ?_)
  have : k.val ≠ k'.val := fun h' => h (Fin.ext h')
  show k.val + 1 ≤ k'.val ∨ k'.val + 1 ≤ k.val
  omega

/-- What no slot covers of the receive buffer, at some contents. -/
def noSlot (c : Dev nD) : sProp 𝕄 :=
  iprop(∃ f, wM.view.loc (c : Thread nD τ) ↦[Ring.restOf (ℓ := wM.view.loc (c : Thread nD τ)) (fun k : Fin 14 => (slotOf wM k).view.set)]{fullShare} f)
/-- The receive buffer of device `c`, at some contents. -/
def landing (c : Dev nD) : sProp 𝕄 := iprop(∃ f, wM.view.loc (c : Thread nD τ) ↦{fullShare} f)

theorem landing_split (c : Dev nD) : (landing (F := F) c) ⊢ iprop(bigSep Finset.univ (fun k => slotFree c k) ∗ noSlot c) :=
  Ring.fam_split_ex (ℓ := wM.view.loc (c : Thread nD τ)) (fun k : Fin 14 => (slotOf wM k).view.set) (slots_disjoint c)
theorem landing_join (c : Dev nD) : iprop(bigSep Finset.univ (fun k => slotFree c k) ∗ noSlot c) ⊢ (landing (F := F) c) := by
  unfold noSlot landing
  iintro ⟨Hs, ⟨%f, Hr⟩⟩
  iapply (Ring.fam_join (ℓ := wM.view.loc (c : Thread nD τ)) (fun k : Fin 14 => (slotOf wM k).view.set) (slots_disjoint c) f)
  isplitl [Hs]; · iexact Hs
  iexists f; iexact Hr

/-! ## The whole body -/

/-- A piece of a program, with what it does not touch set aside. -/
theorem seq_wp (c : Dev nD) {α : Type} {A B R : sProp 𝕄} {p : TcProg F PUnit} {q : TcProg F α} {Q : α → sProp 𝕄}
    (hp : A ⊢ wp frame (wpE (defs₀ (F := F)) 𝒱₀ (c : Thread nD τ) none) Set.univ p (fun _ => B))
    (hq : iprop(B ∗ R) ⊢ wp frame (wpE (defs₀ (F := F)) 𝒱₀ (c : Thread nD τ) none) Set.univ q Q) :
    iprop(A ∗ R) ⊢ wp frame (wpE (defs₀ (F := F)) 𝒱₀ (c : Thread nD τ) none) Set.univ (p >>= fun _ => q) Q := by
  rw [wp_bind]
  iintro ⟨HA, HR⟩
  iapply (wp_wand_r _ _ _)
  isplitl [HA]; · iapply hp; iexact HA
  iintro %_ HB
  iapply hq
  isplitl [HB] <;> iassumption

/-- What a device brings to the ring from its launch: the tokens of its two meetings and of its steps. -/
def stepRes (c : Dev nD) (k : Fin 14) : sProp 𝕄 :=
  iprop(dutyTok ER (sndCell c k) 0 false ∗ dutyTok ER (rcvCell (nxt c) k) 0 false
    ∗ reached ER (sndCell c k) 0 ∗ atPos ER (sndCell c k) 0 ∅ 0 ∗ atPos ER (rcvCell c k) 0 ∅ 0 ∗ cred (tallyAt (rcvCell c k) () N))
def start (c : Dev nD) : sProp 𝕄 :=
  iprop(meetRes c barCell ∗ (reached ER (barCell (prv c)) 0 ∗ reached ER (barCell (nxt c)) 0)
    ∗ meetRes c endCell ∗ reached ER (endCell c) 0 ∗ bigSep Finset.univ (fun k => reached ER (rcvCell c k) 0)
    ∗ bigSep Finset.univ (fun k => stepRes c k))
/-- The counters a device has drained when its body ends. -/
def drained (c : Dev nD) : sProp 𝕄 :=
  iprop(semVal (endCell c) 0 ∗ bigSep Finset.univ (fun k => semVal (sndCell c k) 0) ∗ bigSep Finset.univ (fun k => semVal (rcvCell c k) 0))

theorem todo_one (c : Dev nD) (k : Fin 14) :
    iprop(stepRes (F := F) c k ∗ slotFree (nxt c) k ∗ reached ER (rcvCell (nxt c) k) 0)
      ⊢ (if k.val < 0 then (done c k : sProp 𝕄) else todo c k) := by
  rw [if_neg (Nat.not_lt_zero _)]
  unfold stepRes todo
  iintro ⟨⟨H1, H2, H3, H5, H6, H7⟩, H8, H9⟩
  isplitl [H1]; · iexact H1
  isplitl [H2]; · iexact H2
  isplitl [H3]; · iexact H3
  isplitl [H9]; · iexact H9
  isplitl [H5]; · iexact H5
  isplitl [H6]; · iexact H6
  isplitl [H7]; · iexact H7
  iexact H8

/-- Before the ring: every step's resources out of the launch's and of what the next device handed over. -/
theorem todo_of (c : Dev nD) :
    iprop(bigSep Finset.univ (fun k => stepRes (F := F) c k) ∗ bigSep Finset.univ (fun k => slotFree (nxt c) k) ∗ bigSep Finset.univ (fun k => reached ER (rcvCell (nxt c) k) 0))
      ⊢ bigSep Finset.univ (fun k : Fin 14 => if k.val < 0 then (done c k : sProp 𝕄) else todo c k) := by
  rw [← bigSep_sep', ← bigSep_sep']
  exact bigSep_mono fun k _ => todo_one c k

theorem done_one (c : Dev nD) (k : Fin 14) :
    iprop(known P κ ∗ (if k.val < 14 then (done c k : sProp 𝕄) else todo c k))
      ⊢ |={Set.univ}=> iprop(semVal (sndCell c k) 0 ∗ semVal (rcvCell c k) 0 ∗ slotFree (F := F) c k) := by
  rw [if_pos k.isLt]
  unfold done
  iintro ⟨#Hk, HaS, HaR, Hslot⟩
  imod (Rounds.cell_close ER (ringRd P) (Set.mem_univ (κ (sndCell c k))) (fun h => h) (R := 1) (duties_later P (sndCell c k))) $$ [HaS] with HvS
  · isplitr; · iapply (known_snd P κ c k); iexact Hk
    iexact HaS
  imod (Rounds.cell_close ER (ringRd P) (Set.mem_univ (κ (rcvCell c k))) (fun h => h) (R := 1) (duties_later P (rcvCell c k))) $$ [HaR] with HvR
  · isplitr; · iapply (known_rcv P κ c k); iexact Hk
    iexact HaR
  imodintro
  isplitl [HvS]; · iexact HvS
  isplitl [HvR] <;> iassumption

/-- After the ring: the counters of its cells drained, and the slots back. -/
theorem of_done (c : Dev nD) :
    iprop(known P κ ∗ bigSep Finset.univ (fun k : Fin 14 => if k.val < 14 then (done c k : sProp 𝕄) else todo c k))
      ⊢ |={Set.univ}=> iprop(bigSep Finset.univ (fun k => semVal (sndCell c k) 0) ∗ bigSep Finset.univ (fun k => semVal (rcvCell c k) 0)
          ∗ bigSep Finset.univ (fun k => slotFree (F := F) c k)) := by
  rw [← bigSep_sep', ← bigSep_sep']
  exact (bigSep_with_persistent fun k _ => done_one P κ c k).trans (bigSep_fupd _ _)

/-- The ring, from the device's product to the sum. -/
theorem ring_wp (c : Dev nD) {α : Type} {R : sProp 𝕄} {q : TcProg F α} {Q : α → sProp 𝕄}
    (hq : iprop(atStep P κ 14 c ∗ R) ⊢ wp frame (wpE (defs₀ (F := F)) 𝒱₀ (c : Thread nD τ) none) Set.univ q Q) :
    iprop(atStep P κ 0 c ∗ R) ⊢ wp frame (wpE (defs₀ (F := F)) 𝒱₀ (c : Thread nD τ) none) Set.univ (do
      rsStep oM wM cc0_scratch1 cc0_scratch2 c 0
      rsStep oM wM cc0_scratch1 cc0_scratch2 c 1
      rsStep oM wM cc0_scratch1 cc0_scratch2 c 2
      rsStep oM wM cc0_scratch1 cc0_scratch2 c 3
      rsStep oM wM cc0_scratch1 cc0_scratch2 c 4
      rsStep oM wM cc0_scratch1 cc0_scratch2 c 5
      rsStep oM wM cc0_scratch1 cc0_scratch2 c 6
      agStep oM wM cc0_scratch1 cc0_scratch2 c 0
      agStep oM wM cc0_scratch1 cc0_scratch2 c 1
      agStep oM wM cc0_scratch1 cc0_scratch2 c 2
      agStep oM wM cc0_scratch1 cc0_scratch2 c 3
      agStep oM wM cc0_scratch1 cc0_scratch2 c 4
      agStep oM wM cc0_scratch1 cc0_scratch2 c 5
      agStep oM wM cc0_scratch1 cc0_scratch2 c 6
      q) Q :=
  seq_wp c (rs_wp P κ c 0) <| seq_wp c (rs_wp P κ c 1) <| seq_wp c (rs_wp P κ c 2) <| seq_wp c (rs_wp P κ c 3) <|
  seq_wp c (rs_wp P κ c 4) <| seq_wp c (rs_wp P κ c 5) <| seq_wp c (rs_wp P κ c 6) <|
  seq_wp c (ag_wp P κ c 0) <| seq_wp c (ag_wp P κ c 1) <| seq_wp c (ag_wp P κ c 2) <| seq_wp c (ag_wp P κ c 3) <|
  seq_wp c (ag_wp P κ c 4) <| seq_wp c (ag_wp P κ c 5) <| seq_wp c (ag_wp P κ c 6) hq

/-- The end of the body: after the ring, the last meeting. -/
theorem end_wp (c : Dev nD) (x wq wo K V) :
    iprop(atStep P κ 14 c ∗ operands c x wq wo K V ∗ noSlot c ∗ semVal (barCell c) 0 ∗ meetRes c endCell
        ∗ (reached ER (endCell (prv c)) 0 ∗ reached ER (endCell (nxt c)) 0))
      ⊢ wp frame (wpE (defs₀ (F := F)) 𝒱₀ (c : Thread nD τ) none) Set.univ
          (meet cc0_scoped0.sem ⟨k0_dev17 c, k0_dev17_lt c⟩ ⟨k0_dev18 c, k0_dev18_lt c⟩)
          (fun _ => iprop(operands c x wq wo K V ∗ oPts c (outAt P 14 c) ∗ landing c ∗ semVal (barCell c) 0 ∗ drained c ∗ owing c 0)) := by
  unfold atStep
  iintro ⟨⟨#Hk, Ho, Hall, HO⟩, Hops, Hno, HvB, Hend, #Hre⟩
  iapply fupd_wp
  imod (of_done P κ c) $$ [Hall] with ⟨HvS, HvR, Hslots⟩
  · isplitr; · iexact Hk
    iexact Hall
  imodintro
  iapply (wp_wand_r _ _ _)
  isplitl [Hend HO]
  · iapply (meet_end_wp P κ c _ _ rfl rfl)
    isplitr; · iexact Hk
    isplitl [Hend]; · iexact Hend
    isplitr; · iexact Hre
    iexact HO
  iintro %_ ⟨HvE, HO⟩
  isplitl [Hops]; · iexact Hops
  isplitl [Ho]; · iexact Ho
  isplitl [Hslots Hno]
  · iapply (landing_join c)
    isplitl [Hslots] <;> iassumption
  isplitl [HvB]; · iexact HvB
  isplitr [HO]
  · unfold drained
    isplitl [HvE]; · iexact HvE
    isplitl [HvS] <;> iassumption
  iexact HO

/-- The body at device `c`: from the launch's resources and the staged operands to the result buffer at the ring's sum, the
    receive buffer back, every counter drained and nothing owed. -/
theorem body_wp (c : Dev nD) (x wq wo K V) (hP : P c = partOf x wq wo K V) :
    iprop(known P κ ∗ start c ∗ landing c ∗ owing c (O₀ c) ∗ operands c x wq wo K V ∗ ∃ f, oPts c f)
      ⊢ wp frame (wpE (defs₀ (F := F)) 𝒱₀ (c : Thread nD τ) none) Set.univ
          (chain xM wqM woM kM vM oM wM cc0_scratch1 cc0_scratch2 cc0_scoped0)
          (fun _ => iprop(operands c x wq wo K V ∗ oPts c (outAt P 14 c) ∗ landing c ∗ semVal (barCell c) 0 ∗ drained c ∗ owing c 0)) := by
  unfold chain
  simp only [Prog.lift, Prog.bind_op, Prog.bind_ret, wp_deviceId]
  iintro ⟨#Hk, Hst, Hland, HO, Hops, Ho⟩
  unfold start
  icases Hst with ⟨Hbar, #Hrb, Hend, #Hre, #Hrv, Hsteps⟩
  ihave Hland := (landing_split c) $$ Hland
  icases Hland with ⟨Hslots, Hno⟩
  rw [wp_bind]
  iapply (wp_wand_r _ _ _)
  isplitl [Hbar Hslots HO]
  · iapply (meet_bar_wp P κ c _ _ rfl rfl)
    isplitr; · iexact Hk
    isplitl [Hbar]; · iexact Hbar
    isplitr; · iexact Hrb
    isplitl [Hslots]
    · isplitl [Hslots]; · iexact Hslots
      isplitr; · iexact Hrv
      iexact Hre
    iexact HO
  iintro %_ ⟨HvB, HfP, HfN, HO⟩
  unfold fromPrev fromNext
  icases HfP with #HrP
  icases HfN with ⟨HslotsN, HrcvN, #HrN⟩
  rw [wp_bind]
  iapply (wp_wand_r _ _ _)
  isplitl [Hops Ho]
  · iapply (compute_wp c x wq wo K V)
    isplitl [Hops] <;> iassumption
  iintro %_ ⟨Hops, Ho⟩
  iapply (ring_wp P κ c (R := iprop(operands c x wq wo K V ∗ noSlot c ∗ semVal (barCell c) 0 ∗ meetRes c endCell
    ∗ (reached ER (endCell (prv c)) 0 ∗ reached ER (endCell (nxt c)) 0))) (end_wp P κ c x wq wo K V))
  isplitl [Ho Hsteps HslotsN HrcvN HO]
  · unfold atStep
    isplitr; · iexact Hk
    isplitl [Ho]; · rw [outAt, hP]; iexact Ho
    isplitl [Hsteps HslotsN HrcvN]
    · iapply (todo_of c)
      isplitl [Hsteps]; · iexact Hsteps
      isplitl [HslotsN] <;> iassumption
    iexact HO
  isplitl [Hops]; · iexact Hops
  isplitl [Hno]; · iexact Hno
  isplitl [HvB]; · iexact HvB
  isplitl [Hend]; · iexact Hend
  isplitr; · iexact HrP
  iexact HrN

end Cert.KernelIdeal.Ring8

end
-- ==== Proof.KI.Data.lean ====
/-
  What the kernel's one grid point is entered with and leaves behind: the arrays' contents, the protocol's part of the
  body's invariant, and the body's obligation, from the walk of the ring in `Body`.
-/
module

public import proofs.«01_k».proof.Proof.KI.Body
public import proofs.«01_k».proof.Proof.Gen.KernelIdeal.Frame
public import proofs.«01_k».proof.Proof.Gen.KernelIdeal.Points
public import Idealize.ShloMosaic.Lib.Pipeline.ValueKit.Geometry

@[expose] public section

set_option maxRecDepth 16384

noncomputable section

namespace Cert.KernelIdeal.Ring8

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## Contents -/

/-- The five operands as the kernel finds them on device `c`: the activations, the query weights, the output weights, the
    keys and the values. -/
def inX (c : Dev nD) : (cc0_stg0_0 : Ref sig .tc).ty.Contents (Elt F) := V m c main_v1
def inQ (c : Dev nD) : (cc0_stg1_0 : Ref sig .tc).ty.Contents (Elt F) := V m c main_arg1
def inO (c : Dev nD) : (cc0_stg2_0 : Ref sig .tc).ty.Contents (Elt F) := V m c main_arg4
def inK (c : Dev nD) : (cc0_stg3_0 : Ref sig .tc).ty.Contents (Elt F) := V m c main_v2
def inV (c : Dev nD) : (cc0_stg4_0 : Ref sig .tc).ty.Contents (Elt F) := V m c main_v3

/-- The partial product of each device. -/
def part (c : Dev nD) : OutC F := partOf (inX m c) (inQ m c) (inO m c) (inK m c) (inV m c)

/-- What device `c`'s result buffer holds when the ring is done. -/
@[irreducible] def result (c : Dev nD) : OutC F := outAt (part m) 14 c

theorem result_def (c : Dev nD) : result m c = outAt (part m) 14 c := by unfold result; rfl

/-! ## The proof data -/

/-- The receive buffer and the generator register, which come with the call and go with it. -/
def aside (c : Dev nD) : sProp 𝕄 := iprop(landing c ∗ ∃ r, prngReg c r)

/-- Before the point: the protocol's records, the device's part of the ghost state. -/
def Φ₀ (c : Dev nD) : sProp 𝕄 := iprop((∃ κ, known (part m) κ ∗ start c) ∗ aside c)
/-- After it: every counter of the protocol drained. -/
def Φ₁ (c : Dev nD) : sProp 𝕄 := iprop((semVal (barCell c) 0 ∗ drained c) ∗ aside c)

def dats (_ : Fin 1) (c : Dev nD) : Dat τ (Elt F) Unit ℕ UU ℕ cfg0 c where
  A w := V m c (Pipeline.arrRef spec0 w)
  after w _ := match w with
    | ⟨0, _⟩ => inX m c
    | ⟨1, _⟩ => inQ m c
    | ⟨2, _⟩ => inO m c
    | ⟨3, _⟩ => inK m c
    | ⟨4, _⟩ => inV m c
    | ⟨5, _⟩ => result m c
    | ⟨_ + 6, h⟩ => absurd h (Nat.not_lt.2 (Nat.le_add_left _ _))
  Φ t := match t with
    | ⟨0, _⟩ => Φ₀ m c
    | ⟨_ + 1, _⟩ => Φ₁ c
  q _ := fullShare
  owed t := match t with
    | ⟨0, _⟩ => O₀ c
    | ⟨_ + 1, _⟩ => 0

theorem share_eq (c : Dev nD) (w : Fin cfg0.W) : (dats m 0 c).share w = fullShare := by unfold Dat.share; split <;> rfl

/-! ## The body's obligation -/

theorem owns_whole_eq (c : Dev nD) (b : Ref sig .tc) (X : b.ty.Contents (Elt F)) :
    (owns (c : Thread nD τ) (Memref.whole b) fullShare X : sProp 𝕄)
      = iprop(∃ f : b.ty.Contents (Elt F), ⌜f = X⌝ ∗ bPts c b f) := by
  unfold owns; simp only [Memref.view_whole, View.read_whole, View.set_whole]

/-- A staging buffer that holds `X`. -/
abbrev stg (c : Dev nD) (b : Ref sig .tc) (X : b.ty.Contents (Elt F)) : sProp 𝕄 :=
  iprop(∃ f : b.ty.Contents (Elt F), ⌜f = X⌝ ∗ bPts c b f)

/-! Each input window is fetched at the point: its staging buffer holds its array. -/

theorem before_0 (c : Dev nD) (d) : (dats m 0 c).before (0 : Fin 6) t0_0 d = inX m c := by
  unfold Dat.before; rw [if_pos (fetch0_0 t0_0)]
  exact funext fun i => congrArg (V m c main_v1) (funext fun a => Fin.ext (Window.rect_emb_val_of_index_zero win0_0 t0_0 a rfl i))
theorem before_1 (c : Dev nD) (d) : (dats m 0 c).before (1 : Fin 6) t0_0 d = inQ m c := by
  unfold Dat.before; rw [if_pos (fetch0_1 t0_0)]
  exact funext fun i => congrArg (V m c main_arg1) (funext fun a => Fin.ext (Window.rect_emb_val_of_index_zero win0_1 t0_0 a rfl i))
theorem before_2 (c : Dev nD) (d) : (dats m 0 c).before (2 : Fin 6) t0_0 d = inO m c := by
  unfold Dat.before; rw [if_pos (fetch0_2 t0_0)]
  exact funext fun i => congrArg (V m c main_arg4) (funext fun a => Fin.ext (Window.rect_emb_val_of_index_zero win0_2 t0_0 a rfl i))
theorem before_3 (c : Dev nD) (d) : (dats m 0 c).before (3 : Fin 6) t0_0 d = inK m c := by
  unfold Dat.before; rw [if_pos (fetch0_3 t0_0)]
  exact funext fun i => congrArg (V m c main_v2) (funext fun a => Fin.ext (Window.rect_emb_val_of_index_zero win0_3 t0_0 a rfl i))
theorem before_4 (c : Dev nD) (d) : (dats m 0 c).before (4 : Fin 6) t0_0 d = inV m c := by
  unfold Dat.before; rw [if_pos (fetch0_4 t0_0)]
  exact funext fun i => congrArg (V m c main_v3) (funext fun a => Fin.ext (Window.rect_emb_val_of_index_zero win0_4 t0_0 a rfl i))

/-- The result array ends at the result buffer's contents. -/
theorem result_eq (c : Dev nD) : (dats m 0 c).arrAt (5 : Fin 6) cfg0.N = result m c :=
  (dats m 0 c).arrAt_eq_of_after_last (5 : Fin 6) t0_0 (by decide +kernel) (result m c) fun j => rfl

/-- What the body is entered with. -/
def bodyPre (c : Dev nD) : sProp 𝕄 :=
  iprop(Φ₀ m c ∗ (dats m 0 c).owesAt () t0_0.castSucc
    ∗ (∃ d, stg c cc0_stg0_0 ((dats m 0 c).before (0 : Fin 6) t0_0 d))
    ∗ (∃ d, stg c cc0_stg1_0 ((dats m 0 c).before (1 : Fin 6) t0_0 d))
    ∗ (∃ d, stg c cc0_stg2_0 ((dats m 0 c).before (2 : Fin 6) t0_0 d))
    ∗ (∃ d, stg c cc0_stg3_0 ((dats m 0 c).before (3 : Fin 6) t0_0 d))
    ∗ (∃ d, stg c cc0_stg4_0 ((dats m 0 c).before (4 : Fin 6) t0_0 d))
    ∗ (∃ d, stg c cc0_stg5_0 ((dats m 0 c).before (5 : Fin 6) t0_0 d)))
/-- What it leaves. -/
def bodyPost (c : Dev nD) : sProp 𝕄 :=
  iprop(Φ₁ c ∗ (dats m 0 c).owesAt () t0_0.succ
    ∗ stg c cc0_stg0_0 (inX m c) ∗ stg c cc0_stg1_0 (inQ m c) ∗ stg c cc0_stg2_0 (inO m c) ∗ stg c cc0_stg3_0 (inK m c)
    ∗ stg c cc0_stg4_0 (inV m c) ∗ stg c cc0_stg5_0 (result m c))

theorem owing_of (c : Dev nD) : (dats m 0 c).owesAt () t0_0.castSucc ⊢ (owing c (O₀ c) : sProp 𝕄) := by
  unfold Dat.owesAt Pipeline.owesWithin owing
  rw [show (dats m 0 c).owed t0_0.castSucc = O₀ c from rfl]
  iintro ⟨%W, -, H⟩; iexists W; iexact H
theorem of_owing (c : Dev nD) : (owing c 0 : sProp 𝕄) ⊢ (dats m 0 c).owesAt () t0_0.succ := by
  unfold Dat.owesAt Pipeline.owesWithin owing
  rw [show (dats m 0 c).owed t0_0.succ = 0 from rfl]
  iintro ⟨%W, H⟩; iexists W
  isplitr; · ipureintro; exact fun _ _ => Or.inl trivial
  iexact H

/-- The body, run at the point. -/
theorem point_wp (c : Dev nD) :
    bodyPre m c ⊢ wp frame (wpE (defs₀ (F := F)) 𝒱₀ (c : Thread nD τ) none) Set.univ
      (chain xM wqM woM kM vM oM wM cc0_scratch1 cc0_scratch2 cc0_scoped0) (fun _ => bodyPost m c) := by
  unfold bodyPre Φ₀ aside
  iintro ⟨⟨⟨%κ, #Hk, Hst⟩, Hland, Hp⟩, HO, ⟨%d0, %g0, %h0, H0⟩, ⟨%d1, %g1, %h1, H1⟩, ⟨%d2, %g2, %h2, H2⟩, ⟨%d3, %g3, %h3, H3⟩,
    ⟨%d4, %g4, %h4, H4⟩, ⟨%d5, %g5, -, H5⟩⟩
  obtain rfl := h0.trans (before_0 m c d0)
  obtain rfl := h1.trans (before_1 m c d1)
  obtain rfl := h2.trans (before_2 m c d2)
  obtain rfl := h3.trans (before_3 m c d3)
  obtain rfl := h4.trans (before_4 m c d4)
  iapply (wp_wand_r _ _ _)
  isplitr [Hp]
  · iapply (body_wp (part m) κ c (inX m c) (inQ m c) (inO m c) (inK m c) (inV m c) rfl)
    isplitr; · iexact Hk
    isplitl [Hst]; · iexact Hst
    isplitl [Hland]; · iexact Hland
    isplitl [HO]; · iapply (owing_of m c); iexact HO
    isplitl [H0 H1 H2 H3 H4]
    · unfold operands
      isplitl [H0]; · iexact H0
      isplitl [H1]; · iexact H1
      isplitl [H2]; · iexact H2
      isplitl [H3] <;> iassumption
    iexists g5; unfold oPts; iexact H5
  rw [← result_def]
  iintro %_ ⟨Hops, Ho, Hland, Hb, Hd, HO⟩
  unfold operands bodyPost Φ₁ aside
  icases Hops with ⟨H0, H1, H2, H3, H4⟩
  isplitl [Hb Hd Hland Hp]
  · isplitl [Hb Hd]; · isplitl [Hb] <;> iassumption
    isplitl [Hland] <;> iassumption
  isplitl [HO]; · iapply (of_owing m c); iexact HO
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]; · iexists _; isplitr; · ipureintro; rfl
                  iexact H4
  unfold oPts
  iexists _; isplitr; · ipureintro; rfl
  iexact Ho

/-- The library's form of it. -/
theorem body_obligation (c : Dev nD) : BodyObligation (dats m 0 c) (defs₀ (F := F)) 𝒱₀ () Set.univ := fun t => by
  rw [fin_N0 t, bigSep_W0, bigSep_W0]
  simp only [owns_whole_eq]
  show bodyPre m c ⊢ wp frame (wpE (defs₀ (F := F)) 𝒱₀ (c : Thread nD τ) none) Set.univ
    (cc0_body xM (Memref.isWhole_whole _) wqM (Memref.isWhole_whole _) woM (Memref.isWhole_whole _) kM (Memref.isWhole_whole _)
      vM (Memref.isWhole_whole _) oM (Memref.isWhole_whole _) wM (Memref.isWhole_whole _) cc0_scratch1 cc0_scratch2 cc0_scoped0) (fun _ => bodyPost m c)
  rw [body_eq]
  exact point_wp m c

end Cert.KernelIdeal.Ring8

end
-- ==== Proof.KI.Start.lean ====
/-
  The ring's ghost state from the launch to the kernel's entry. The cells of the meeting before the ring are funded live, from
  their counters, which the launch holds; the other cells' semaphores are the call's own, so their cells are funded dormant
  and opened when the call is entered with its counters at zero. The duties' tokens and the credits are dealt to the devices
  that use them: those of a neighbour's cell by a turn of the ring.
-/
module

public import proofs.«01_k».proof.Proof.KI.Data

@[expose] public section

set_option maxRecDepth 16384

noncomputable section

namespace Cert.KernelIdeal.Ring8

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

variable (P : Dev nD → OutC F)

/-! ## The call's own cells -/

/-- The semaphores of the ring that the call scopes: the last meeting's, the fourteen of sending, the fourteen of receiving. -/
abbrev Own : Type := Unit ⊕ (Fin 14 ⊕ Fin 14)
abbrev osem : Own → SemLoc sig
  | .inl _ => .reg endS
  | .inr (.inl k) => .dma (sndS k)
  | .inr (.inr k) => .dma (rcvS k)
abbrev ownCell (c : Dev nD) (k : Own) : GSem nD τ sig := ((c : Thread nD τ), osem k)

theorem ownSemFacts : Pipeline.OwnSemFacts spec0 osem := by decide

theorem osem_inj : Function.Injective osem := by
  have h : Function.Injective (role ∘ osem) := by
    rintro (_ | _ | _) (_ | _ | _) h <;> simp only [Function.comp, role_end, role_snd, role_rcv] at h <;> cases h <;> rfl
  exact h.of_comp
theorem osem_ne_bar (k : Own) : osem k ≠ .reg barS := by
  intro h
  have h := congrArg role h
  rcases k with _ | _ | _ <;> simp only [role_end, role_snd, role_rcv, role_bar] at h <;> cases h

/-- A family over them, by kinds. -/
theorem own_fam (Φ : Own → sProp 𝕄) :
    bigSep Finset.univ Φ = iprop(Φ (.inl ()) ∗ bigSep Finset.univ (fun k => Φ (.inr (.inl k))) ∗ bigSep Finset.univ (fun k => Φ (.inr (.inr k)))) := by
  rw [bigSep_univ_sum, bigSep_univ_sum, bigSep_univ_of_subsingleton ()]; rfl

theorem ownSems_eq (c : Dev nD) : (Pipeline.ownSems0 osem c : sProp 𝕄) = drained c :=
  own_fam (fun k => (semVal ((c : Thread nD τ), osem k) 0 : sProp 𝕄))

/-- What device `c` holds of the ring until the call: the first meeting's, the rights to open its other cells, the tokens of
    the duties it will pay, the credits it will wait with. -/
def dormant (c : Dev nD) : sProp 𝕄 :=
  iprop(meetRes c barCell ∗ (reached ER (barCell (prv c)) 0 ∗ reached ER (barCell (nxt c)) 0)
    ∗ (dutyTok ER (endCell (prv c)) 0 true ∗ dutyTok ER (endCell (nxt c)) 0 false ∗ cred (tallyAt (endCell c) () 2))
    ∗ bigSep Finset.univ (fun k : Own => openTok ER (ownCell c k))
    ∗ bigSep Finset.univ (fun k => dutyTok ER (sndCell c k) 0 false)
    ∗ bigSep Finset.univ (fun k => dutyTok ER (rcvCell (nxt c) k) 0 false)
    ∗ bigSep Finset.univ (fun k => cred (tallyAt (rcvCell c k) () N)))

theorem invs_own (κ : GSem nD τ sig → ℕ) (c : Dev nD) : invsOf P κ c ⊢ bigSep Finset.univ (fun k : Own => Inv P κ (ownCell c k)) := by
  rw [own_fam]; unfold invsOf
  iintro ⟨-, H⟩; iexact H

/-- The call entered: the own cells opened from their counters at zero. -/
theorem open_wp (κ : GSem nD τ sig → ℕ) (c : Dev nD) :
    iprop(bigSep Finset.univ (fun e => invsOf P κ e) ∗ dormant c ∗ drained c ∗ levAts L lv) ⊢ |={Set.univ}=> iprop(known P κ ∗ start c) := by
  rw [← ownSems_eq]
  unfold dormant
  iintro ⟨#HI, ⟨Hbar, Hrb, ⟨He1, He2, Hce⟩, Hop, Hts, Htr, Hcr⟩, Hos, #Hlev⟩
  imod (Rounds.cells_open ER (ringRd P) Finset.univ (fun k : Own => ownCell c k) (fun k => κ (ownCell c k)) (fun k _ => Set.mem_univ _))
    $$ [Hop Hos] with Hopen
  · isplitl [Hop]
    · rw [bigSep_sep']
      isplitr
      · iapply (invs_own P κ c); iapply (fam_at (fun e => invsOf P κ e) c); iexact HI
      iexact Hop
    · unfold Pipeline.ownSems0; iexact Hos
  imodintro
  isplitr
  · unfold known; isplitr; · iexact HI
    iexact Hlev
  ihave H := (Entails.of_eq (own_fam (F := F) _)) $$ Hopen
  icases H with ⟨⟨Hae, #Hre⟩, Hs, Hr⟩
  ihave Hs := (Entails.of_eq (bigSep_sep' _ _ _)) $$ Hs
  ihave Hr := (Entails.of_eq (bigSep_sep' _ _ _)) $$ Hr
  icases Hs with ⟨Has, #Hrs⟩
  icases Hr with ⟨Har, #Hrr⟩
  unfold start
  isplitl [Hbar]; · iexact Hbar
  isplitl [Hrb]; · iexact Hrb
  isplitl [He1 He2 Hce Hae]
  · unfold meetRes
    isplitl [He1]; · iexact He1
    isplitl [He2]; · iexact He2
    isplitl [Hae] <;> iassumption
  isplitr; · iexact Hre
  isplitr; · iexact Hrr
  unfold stepRes
  simp only [bigSep_sep']
  isplitl [Hts]; · iexact Hts
  isplitl [Htr]; · iexact Htr
  isplitr; · iexact Hrs
  isplitl [Has]; · iexact Has
  isplitl [Har]; · iexact Har
  iexact Hcr

/-! ## The cells and the tokens at launch -/

def barEmb : Dev nD ↪ GSem nD τ sig := ⟨fun c => barCell c, fun _ _ h => congrArg (fun g : GSem nD τ sig => g.1.1) h⟩
def ownEmb : Dev nD × Own ↪ GSem nD τ sig :=
  ⟨fun ck => ownCell ck.1 ck.2, fun _ _ h =>
    Prod.ext (congrArg (fun g : GSem nD τ sig => g.1.1) h) (osem_inj (congrArg Prod.snd h))⟩

/-- The cells funded live, and those funded dormant. -/
abbrev barCells : Finset (GSem nD τ sig) := Finset.univ.map barEmb
abbrev ownCells : Finset (GSem nD τ sig) := Finset.univ.map ownEmb

/-- The duties of a device's cells: two of each meeting, one of each transfer's end. -/
abbrev Duty : Type := (Bool ⊕ Bool) ⊕ (Fin 14 ⊕ Fin 14)
abbrev dutyAt : Duty → SemLoc sig × Bool
  | .inl (.inl b) => (.reg barS, b)
  | .inl (.inr b) => (.reg endS, b)
  | .inr (.inl k) => (.dma (sndS k), false)
  | .inr (.inr k) => (.dma (rcvS k), false)
theorem dutyAt_inj : Function.Injective dutyAt := by
  have h : Function.Injective (Prod.map role id ∘ dutyAt) := by
    rintro ((_ | _) | (_ | _)) ((_ | _) | (_ | _)) h <;>
      simp only [Function.comp, Prod.map, role_bar, role_end, role_snd, role_rcv, Prod.mk.injEq, id] at h <;>
      obtain ⟨h, h'⟩ := h <;> cases h <;> first | rfl | (cases h'; rfl)
  exact h.of_comp
def ringToks : Finset (GSem nD τ sig × ℕ × Bool) :=
  Finset.univ.map ⟨fun ck : Dev nD × Duty => (((ck.1 : Thread nD τ), (dutyAt ck.2).1), 0, (dutyAt ck.2).2), fun _ _ h =>
    Prod.ext (congrArg (fun t : GSem nD τ sig × ℕ × Bool => t.1.1.1) h)
      (dutyAt_inj (Prod.ext (congrArg (fun t : GSem nD τ sig × ℕ × Bool => t.1.2) h) (congrArg (fun t : GSem nD τ sig × ℕ × Bool => t.2.2) h)))⟩

theorem disjoint_cells : Disjoint (barCells : Finset (GSem nD τ sig)) ownCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

theorem bool_fam (Φ : Bool → sProp 𝕄) : bigSep Finset.univ Φ = iprop(Φ false ∗ Φ true) :=
  bigSep_univ_eq_bigSepL [false, true] (by decide) (by decide) Φ

/-- A device's tokens, by kinds. -/
theorem duty_fam (Φ : Duty → sProp 𝕄) :
    bigSep Finset.univ Φ = iprop(((Φ (.inl (.inl false)) ∗ Φ (.inl (.inl true))) ∗ Φ (.inl (.inr false)) ∗ Φ (.inl (.inr true)))
      ∗ bigSep Finset.univ (fun k => Φ (.inr (.inl k))) ∗ bigSep Finset.univ (fun k => Φ (.inr (.inr k)))) := by
  rw [bigSep_univ_sum, bigSep_univ_sum, bigSep_univ_sum, bool_fam, bool_fam]; rfl

/-- The tokens a device pays with. -/
def pays (c : Dev nD) : sProp 𝕄 :=
  iprop(((dutyTok ER (barCell (nxt c)) 0 false ∗ dutyTok ER (barCell (prv c)) 0 true)
      ∗ dutyTok ER (endCell (nxt c)) 0 false ∗ dutyTok ER (endCell (prv c)) 0 true)
    ∗ bigSep Finset.univ (fun k => dutyTok ER (sndCell c k) 0 false)
    ∗ bigSep Finset.univ (fun k => dutyTok ER (rcvCell (nxt c) k) 0 false))

/-- The tokens, each dealt to the device that pays the duty. -/
theorem toks_dealt : bigSep ringToks (fun x => (dutyTok ER x.1 x.2.1 x.2.2 : sProp 𝕄)) ⊢ bigSep Finset.univ (fun c => pays c) := by
  have e : bigSep ringToks (fun x => (dutyTok ER x.1 x.2.1 x.2.2 : sProp 𝕄)) = bigSep Finset.univ (fun c : Dev nD =>
      iprop(((dutyTok ER (barCell c) 0 false ∗ dutyTok ER (barCell c) 0 true) ∗ dutyTok ER (endCell c) 0 false ∗ dutyTok ER (endCell c) 0 true)
        ∗ bigSep Finset.univ (fun k => dutyTok ER (sndCell c k) 0 false)
        ∗ bigSep Finset.univ (fun k => dutyTok ER (rcvCell c k) 0 false))) := by
    unfold ringToks; rw [bigSep_map, bigSep_univ_prod]
    exact bigSep_congr fun c _ => by rw [duty_fam]; rfl
  rw [e]
  unfold pays
  simp only [bigSep_sep']
  rw [bigSep_univ_equiv turn (fun c : Dev nD => (dutyTok ER (barCell c) 0 false : sProp 𝕄)),
    bigSep_univ_equiv turn.symm (fun c : Dev nD => (dutyTok ER (barCell c) 0 true : sProp 𝕄)),
    bigSep_univ_equiv turn (fun c : Dev nD => (dutyTok ER (endCell c) 0 false : sProp 𝕄)),
    bigSep_univ_equiv turn.symm (fun c : Dev nD => (dutyTok ER (endCell c) 0 true : sProp 𝕄)),
    bigSep_univ_equiv turn (fun c : Dev nD => (bigSep Finset.univ (fun k => dutyTok ER (rcvCell c k) 0 false) : sProp 𝕄))]
  exact BI.Entails.refl _

/-! ## The credits -/

theorem owed_sum (c : Dev nD) : ∀ j : ℕ, owed c j = owed c 0 + ∑ i ∈ Finset.range j, tallyAt (rcvCell (nxt c) ⟨13 - i, by omega⟩) () N
  | 0 => by rw [Finset.sum_range_zero, add_zero]
  | j + 1 => by rw [Finset.sum_range_succ, ← add_assoc, ← owed_sum c j]; rfl
/-- What a device owes in the ring, an arrival at a time. -/
theorem owed_all (c : Dev nD) : owed c 14
    = (tallyAt (endCell (nxt c)) () 1 + tallyAt (endCell (prv c)) () 1) + ∑ k : Fin 14, tallyAt (rcvCell (nxt c) k) () N := by
  rw [owed_sum, Finset.sum_range, ← Equiv.sum_comp Fin.revPerm]
  refine congrArg₂ _ rfl (Finset.sum_congr rfl fun k _ => ?_)
  have : (⟨13 - (Fin.rev k).val, by omega⟩ : Fin 14) = k := Fin.ext (by show 13 - (Fin.rev k).val = k.val; rw [Fin.val_rev]; omega)
  rw [Fin.revPerm_apply, this]

theorem cred_two (g : GSem nD τ sig) : iprop(cred (tallyAt g () 1) ∗ cred (tallyAt g () 1)) ⊢ (cred (tallyAt g () 2) : sProp 𝕄) := by
  rw [show (2 : ℕ) = 1 + 1 from rfl, ← tallyAt_add]; exact (cred_add _ _).2

/-- The launch's credits of device `c`: two for each meeting, a transfer's worth for each arrival. -/
theorem creds (c : Dev nD) : (Pipeline.launchCred O₀ c : sProp 𝕄)
    ⊢ iprop(cred (tallyAt (barCell c) () 2) ∗ cred (tallyAt (endCell c) () 2) ∗ bigSep Finset.univ (fun k => cred (tallyAt (rcvCell c k) () N))) := by
  have e : (O₀ : Dev nD → CellTallies nD τ sig Unit) = fun d =>
      (((tallyAt (endCell (nxt d)) () 1 + tallyAt (endCell (prv d)) () 1) + ∑ k : Fin 14, tallyAt (rcvCell (nxt d) k) () N)
        + tallyAt (barCell (nxt d)) () 1) + tallyAt (barCell (prv d)) () 1 := funext fun d => by
    unfold O₀ O₁; rw [owed_all]
  rw [e, Pipeline.launchCred_add, Pipeline.launchCred_add, Pipeline.launchCred_add, Pipeline.launchCred_add, Pipeline.launchCred_sum]
  iintro ⟨⟨⟨⟨He1, He2⟩, Hr⟩, Hb1⟩, Hb2⟩
  ihave He1 := (Pipeline.launchCred_tallyAt (.reg endS) nxt prv nxt_prv prv_nxt () 1 c) $$ He1
  ihave He2 := (Pipeline.launchCred_tallyAt (.reg endS) prv nxt prv_nxt nxt_prv () 1 c) $$ He2
  ihave Hb1 := (Pipeline.launchCred_tallyAt (.reg barS) nxt prv nxt_prv prv_nxt () 1 c) $$ Hb1
  ihave Hb2 := (Pipeline.launchCred_tallyAt (.reg barS) prv nxt prv_nxt nxt_prv () 1 c) $$ Hb2
  isplitl [Hb1 Hb2]
  · iapply (cred_two (barCell c)); isplitl [Hb1] <;> iassumption
  isplitl [He1 He2]
  · iapply (cred_two (endCell c)); isplitl [He1] <;> iassumption
  iapply (show bigSep Finset.univ (fun k : Fin 14 => (Pipeline.launchCred (fun d => tallyAt (rcvCell (nxt d) k) () N) c : sProp 𝕄))
      ⊢ bigSep Finset.univ (fun k => cred (tallyAt (rcvCell c k) () N)) from
    bigSep_mono fun k _ => Pipeline.launchCred_tallyAt (.dma (rcvS k)) nxt prv nxt_prv prv_nxt () N c)
  iexact Hr

end Cert.KernelIdeal.Ring8

end
-- ==== Proof.KI.Run.lean ====
/-
  The run of the whole program: the host reshapes, the kernel on the eight devices, the host reshape of its result.
-/
module

public import proofs.«01_k».proof.Proof.KI.Start
public import Idealize.ShloMosaic.Lib.Pipeline.RegionTalk
public import Idealize.ShloMosaic.Lib.Pipeline.Regions
public import Idealize.ShloMosaic.Lib.Quiescent

@[expose] public section

set_option maxRecDepth 16384

noncomputable section

namespace Cert.KernelIdeal.Ring8

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

abbrev adm (p : Fin 1) : (pcfgs (F := F) p).Adm := (cfgs p).toPCfg_adm

/-! ## Contents around the call -/

/-- Device `c`'s buffers when the call is left: the result array at the ring's result. -/
def V₁ (c : Dev nD) : Valuation τ sig (Elt F) := Function.update (V0 m c) (Proc.devRef .tc main_v4) (result m c)
/-- And at the end, the result reshaped. -/
def V₂ (c : Dev nD) : Valuation τ sig (Elt F) := StableHlo.after hostOps1 (V₁ m c)

theorem V₁_v4 (c : Dev nD) : V₁ m c (Proc.devRef .tc main_v4) = result m c := by unfold V₁; exact Function.update_self ..
theorem V₁_of_ne (c : Dev nD) (b : DevRef τ sig) (h : b ≠ Proc.devRef .tc main_v4) : V₁ m c b = V0 m c b := by
  unfold V₁; exact Function.update_of_ne h ..

/-- The buffers no window names. -/
abbrev others : Finset (DevRef τ sig) := Pipeline.ucRefs τ sig \ Pipeline.arrRefs (τ := τ) spec0

theorem arrRefs_sub : Pipeline.arrRefs (τ := τ) spec0 ⊆ Pipeline.ucRefs τ sig := Pipeline.arrRefs_sub_ucRefs spec0 launch0.win.arr_unscoped

theorem held_parts (c : Dev nD) (W : Valuation τ sig (Elt F)) :
    (StableHlo.held (c : Thread nD τ) (Pipeline.ucRefs τ sig) W : sProp 𝕄)
      = iprop(StableHlo.held (c : Thread nD τ) (Pipeline.arrRefs (τ := τ) spec0) W ∗ StableHlo.held (c : Thread nD τ) others W) :=
  StableHlo.held_sub_split (c : Thread nD τ) arrRefs_sub W

/-! ## The call -/

/-- What the launch keeps for the call on device `c`. -/
def Tk (c : Dev nD) : sProp 𝕄 := iprop(∃ κ, bigSep Finset.univ (fun e => invsOf (part m) κ e) ∗ dormant c)
/-- The same, the cells open. -/
def Xk (c : Dev nD) : sProp 𝕄 := iprop(∃ κ, known (part m) κ ∗ start c)
/-- What is left of it: the first meeting's counter, drained. -/
def Yk (c : Dev nD) : sProp 𝕄 := semVal (barCell c) 0

theorem hopen (c : Dev nD) : iprop(Tk m c ∗ Pipeline.ownSems0 osem c ∗ levAts L lv) ⊢ (|={Set.univ}=> Xk m c : sProp 𝕄) := by
  rw [ownSems_eq]
  unfold Tk Xk
  iintro ⟨⟨%κ, #HI, Hd⟩, Hos, #Hlev⟩
  imod (open_wp (part m) κ c) $$ [Hd Hos] with H
  · isplitr; · iexact HI
    isplitl [Hd]; · iexact Hd
    isplitl [Hos]; · iexact Hos
    iexact Hlev
  imodintro
  iexists κ; iexact H

theorem hin (c : Dev nD) : iprop(Pipeline.scopedRest spec0 c ∗ (∃ r, prngReg c r) ∗ StableHlo.held (c.tc : Thread nD τ) ∅ (V0 m c) ∗ Xk m c)
    ⊢ (dats m 0 c).Φ 0 := by
  rw [show (dats m 0 c).Φ 0 = Φ₀ m c from rfl, scopedRest0_eq]
  unfold Xk Φ₀ aside landing
  iintro ⟨Hs, Hp, -, HX⟩
  isplitl [HX]; · iexact HX
  isplitl [Hs]; · iexact Hs
  iexact Hp

theorem hout (c : Dev nD) : (dats m 0 c).Φ (Fin.last cfg0.N)
    ⊢ iprop(Pipeline.scopedRest spec0 c ∗ (∃ r, prngReg c r) ∗ StableHlo.held (c.tc : Thread nD τ) ∅ (V₁ m c) ∗ Pipeline.ownSems0 osem c ∗ Yk c) := by
  rw [show (dats m 0 c).Φ (Fin.last cfg0.N) = Φ₁ c from rfl, scopedRest0_eq, ownSems_eq]
  unfold Yk Φ₁ aside landing
  iintro ⟨⟨Hb, Hd⟩, Hs, Hp⟩
  isplitl [Hs]; · iexact Hs
  isplitl [Hp]; · iexact Hp
  isplitr
  · unfold StableHlo.held; rw [BI.bigSep_empty]; iempintro
  isplitl [Hd] <;> iassumption

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- Whatever a device owes around the call is above the staging semaphores. -/
theorem owed_cut (c : Dev nD) (t : Fin (cfg0.N + 1)) (g : GSem nD τ sig) (u : Unit) (h : 0 < (dats m 0 c).owed t g u) :
    u ∈ L g ∧ (0 : ℕ) < lv g u := by
  have e : (dats m 0 c).owed t = O₀ c ∨ (dats m 0 c).owed t = 0 := by
    rcases t with ⟨_ | _, _⟩
    · exact .inl rfl
    · exact .inr rfl
  rcases e with e | e <;> rw [e] at h
  · obtain ⟨d, sm, rfl, hlv⟩ := O₀_pos h
    exact ⟨by rw [L_tc]; exact Finset.mem_singleton_self _, hlv⟩
  · exact absurd h (Nat.lt_irrefl 0)

theorem stage_low : ∀ (w : Fin 6) (s : Fin (spec0 w).nbuf), ((spec0 w).sem s).val < 6 := by decide

set_option backward.isDefEq.respectTransparency.types false in
def region : Pipeline.RegionSeg (pcfgs (F := F)) adm (dats m) () defs₀ 𝒱₀ L lv 0 :=
  Pipeline.RegionSeg.ofTalk (pcfgs (F := F)) adm (dats m) () defs₀ 𝒱₀ L lv 0 osem ownSemFacts
    ∅ others (Finset.empty_subset _) kitP rfl (fun c => (body_obligation m c).loose)
    (fun _ => 0) O₀ (fun c => (zero_add (O₀ c)).symm) (fun _ => rfl) (fun _ => rfl) (share_eq m)
    (V0 m) (V₁ m)
    (fun c b hb => V₁_of_ne m c b fun e => by
      subst e
      exact (Finset.mem_sdiff.mp (Finset.mem_sdiff.mp hb).1).2 (Finset.mem_map_of_mem _ (Finset.mem_image_of_mem (Pipeline.arrRef spec0) (Finset.mem_univ (5 : Fin 6)))))
    (Tk m) Yk (Xk m) Yk (hopen m) (hin m) (hout m)
    (fun c => by iintro H; imodintro; iexact H)
    (fun _ => 0)
    ⟨fun c w s => by rw [L_tc]; exact Finset.mem_singleton_self _,
      fun c w s => by show lvOf (role _) ≤ 0; rw [role_low _ (stage_low w s)]; exact le_refl _,
      fun c t g i h => owed_cut m c t g i h⟩
    (fun _ => iprop(emp))
    (fun c w => rfl)
    (fun c w => by
      match w with
      | ⟨5, _⟩ => exact (result_eq m c).trans (V₁_v4 m c).symm
      | ⟨0, _⟩ => exact ((dats m 0 c).arrAt_in (0 : Fin 6) rfl _).trans (V₁_of_ne m c (Proc.devRef .tc main_v1) (StableHlo.devRef_ne_of_ne (by decide))).symm
      | ⟨1, _⟩ => exact ((dats m 0 c).arrAt_in (1 : Fin 6) rfl _).trans (V₁_of_ne m c (Proc.devRef .tc main_arg1) (StableHlo.devRef_ne_of_ne (by decide))).symm
      | ⟨2, _⟩ => exact ((dats m 0 c).arrAt_in (2 : Fin 6) rfl _).trans (V₁_of_ne m c (Proc.devRef .tc main_arg4) (StableHlo.devRef_ne_of_ne (by decide))).symm
      | ⟨3, _⟩ => exact ((dats m 0 c).arrAt_in (3 : Fin 6) rfl _).trans (V₁_of_ne m c (Proc.devRef .tc main_v2) (StableHlo.devRef_ne_of_ne (by decide))).symm
      | ⟨4, _⟩ => exact ((dats m 0 c).arrAt_in (4 : Fin 6) rfl _).trans (V₁_of_ne m c (Proc.devRef .tc main_v3) (StableHlo.devRef_ne_of_ne (by decide))).symm
      | ⟨n + 6, h⟩ => exact absurd h (Nat.not_lt.2 (Nat.le_add_left _ _)))

end Cert.KernelIdeal.Ring8

end
-- ==== Proof.KI.Launch.lean ====
/-
  The launch of the whole program and its end: @main as the host lines around the call, the ring's ghost state dealt at the
  launch, and what every final state holds.
-/
module

public import proofs.«01_k».proof.Proof.KI.Run

@[expose] public section

set_option maxRecDepth 16384

noncomputable section

namespace Cert.KernelIdeal.Ring8

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## @main, in three parts -/

/-- Beside the buffers until the call. -/
def before (c : Dev nD) : sProp 𝕄 :=
  iprop(Tk m c ∗ (∃ r, prngReg c r) ∗ ∃ W, owes (c : Thread nD τ) (O₀ c) W)
/-- And after it. -/
def later (c : Dev nD) : sProp 𝕄 := iprop(Yk c ∗ ∃ W, owes (c : Thread nD τ) (0 : CellTallies nD τ sig Unit) W)

/-- Device `c`'s launch contents. -/
def U₀ (c : Dev nD) : Valuation τ sig (Elt F) := fun b => m (c, b)

def host₀ : Pipeline.HostSeg (Ix := Unit) (Name := ℕ) (U := UU) (Lvl := ℕ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h)) (List.forall_iff_forall_mem.mp hostOps0_fresh)
    (U₀ m) (before m)
def host₁ : Pipeline.HostSeg (Ix := Unit) (Name := ℕ) (U := UU) (Lvl := ℕ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h)) (List.forall_iff_forall_mem.mp hostOps1_fresh)
    (V₁ m) later

def parts : List (Pipeline.Seg (pcfgs (F := F)) adm (dats m) () defs₀ 𝒱₀ L lv) := [.host (host₀ m), .region (region m), .host (host₁ m)]

theorem main_parts (c : Dev nD) : main (F := F) c = Pipeline.Seg.run (parts m) :=
  Gen.main_segs adm (dats m) () 𝒱₀ L lv (host₀ m) (host₁ m) (region m) rfl rfl c

theorem call_pre (c : Dev nD) :
    iprop(StableHlo.held (c : Thread nD τ) (Pipeline.ucRefs τ sig) (V0 m c) ∗ before m c) ⊢ (region m).pre c := by
  show _ ⊢ iprop(StableHlo.held (c.tc : Thread nD τ) (Pipeline.arrRefs (τ := τ) spec0) (V0 m c) ∗ (∃ r, prngReg c r)
    ∗ (StableHlo.held (c.tc : Thread nD τ) others (V0 m c) ∗ emp) ∗ Tk m c ∗ ∃ Wd, owes (c : Thread nD τ) (0 + O₀ c) Wd)
  rw [held_parts, zero_add]
  unfold before
  iintro ⟨⟨Ha, Ho⟩, HT, Hp, HO⟩
  isplitl [Ha]; · iexact Ha
  isplitl [Hp]; · iexact Hp
  isplitl [Ho]
  · isplitl [Ho]; · iexact Ho
    iempintro
  isplitl [HT] <;> iassumption

theorem call_post (c : Dev nD) : (region m).post c
    ⊢ iprop(StableHlo.held (c : Thread nD τ) (Pipeline.ucRefs τ sig) (V₁ m c) ∗ later c) := by
  show iprop(StableHlo.held (c.tc : Thread nD τ) (Pipeline.arrRefs (τ := τ) spec0) (V₁ m c) ∗ (∃ r, prngReg c r)
    ∗ (StableHlo.held (c.tc : Thread nD τ) others (V₁ m c) ∗ emp) ∗ Yk c ∗ ∃ Wd, owes (c : Thread nD τ) (0 : CellTallies nD τ sig Unit) Wd) ⊢ _
  rw [held_parts]
  unfold later
  iintro ⟨Ha, -, ⟨Ho, -⟩, HY, HO⟩
  isplitl [Ha Ho]
  · isplitl [Ha] <;> iassumption
  isplitl [HY] <;> iassumption

/-! ## The launch -/

def u₀ : UU :=
  (initOf (Pipeline.cells (Pipeline.pin (pcfgs (F := F)) adm) cellOf_inj) (Pipeline.launchToks (Pipeline.pin (pcfgs (F := F)) adm) cellOf_inj),
    launchOf barCells ownCells ringToks)

/-- A resource placed on device 0, nothing on the others. -/
def onFirst (X : sProp 𝕄) (c : Dev nD) : sProp 𝕄 := if c = 0 then X else iprop(emp)
theorem onFirst_all (X : sProp 𝕄) : bigSep Finset.univ (onFirst X) = X := by
  have h : bigSep (Finset.univ.erase (0 : Dev nD)) (onFirst X) = (BI.emp : sProp 𝕄) := by
    rw [bigSep_congr (Ψ := fun _ => (BI.emp : sProp 𝕄)) fun c hc => ?_, BI.bigSep_emp_const]
    unfold onFirst; rw [if_neg (Finset.ne_of_mem_erase hc)]; rfl
  rw [bigSep_univ_at _ (0 : Dev nD), h]
  unfold onFirst; rw [if_pos rfl]
  exact BI.equiv_iff.mp sep_emp

/-- The protocol's launch element, kept whole until the devices' holdings are together. -/
def G : Dev nD → sProp 𝕄 := onFirst (BI.own (ER (launchOf barCells ownCells ringToks)))

theorem sems_launch (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- What every device may consult: all the invariants, and that no first meeting has passed a round it has not. -/
def records (κ : GSem nD τ sig → ℕ) : sProp 𝕄 :=
  iprop(bigSep Finset.univ (fun e => invsOf (part m) κ e) ∗ bigSep Finset.univ (fun e => reached ER (barCell e) 0))
instance records_persistent (κ : GSem nD τ sig → ℕ) : BI.Persistent (records m κ) := by unfold records; infer_instance

/-- Device `c`'s share of the protocol's launch. -/
def share (c : Dev nD) : sProp 𝕄 :=
  iprop(atPos ER (barCell c) 0 ∅ 0 ∗ bigSep Finset.univ (fun k : Own => openTok ER (ownCell c k)) ∗ pays c)
/-- And of the buffers, with the credits of the waits to come. -/
def hold (c : Dev nD) : sProp 𝕄 :=
  iprop(StableHlo.held (c : Thread nD τ) (Pipeline.ucRefs τ sig) (U₀ m c)
    ∗ (cred (tallyAt (barCell c) () 2) ∗ cred (tallyAt (endCell c) () 2) ∗ bigSep Finset.univ (fun k => cred (tallyAt (rcvCell c k) () N)))
    ∗ owes (c : Thread nD τ) (O₀ c) ∅ ∗ ∃ r, prngReg c r)

abbrev first (c : Dev nD) : sProp 𝕄 := iprop(StableHlo.held (c : Thread nD τ) (Pipeline.ucRefs τ sig) (U₀ m c) ∗ before m c)
abbrev final (c : Dev nD) : sProp 𝕄 := iprop(StableHlo.held (c : Thread nD τ) (Pipeline.ucRefs τ sig) (V₂ m c) ∗ semVal (barCell c) 0)

theorem first_of (κ : GSem nD τ sig → ℕ) (c : Dev nD) : iprop(records m κ ∗ (share c ∗ hold m c)) ⊢ first m c := by
  unfold records share hold first before Tk pays dormant meetRes
  iintro ⟨⟨#HI, #HR⟩, ⟨Hat, Hop, ⟨⟨Hbn, Hbp⟩, Hen, Hep⟩, Hs, Hr⟩, Hh, ⟨Hcb, Hce, Hcr⟩, HO, Hp⟩
  isplitl [Hh]; · iexact Hh
  isplitr [HO Hp]
  · iexists κ
    isplitr; · iexact HI
    isplitl [Hbp Hbn Hat Hcb]
    · isplitl [Hbp]; · iexact Hbp
      isplitl [Hbn]; · iexact Hbn
      isplitl [Hat] <;> iassumption
    isplitr
    · isplitr
      · iapply (fam_at (fun e => (reached ER (barCell e) 0 : sProp 𝕄)) (prv c)); iexact HR
      · iapply (fam_at (fun e => (reached ER (barCell e) 0 : sProp 𝕄)) (nxt c)); iexact HR
    isplitl [Hep Hen Hce]
    · isplitl [Hep]; · iexact Hep
      isplitl [Hen] <;> iassumption
    isplitl [Hop]; · iexact Hop
    isplitl [Hs]; · iexact Hs
    isplitl [Hr] <;> iassumption
  isplitl [Hp]; · iexact Hp
  iexists ∅; iexact HO

theorem invs_dealt (κ : GSem nD τ sig → ℕ) : (bigSep (barCells ∪ ownCells) fun g => (cellInv ER (ringRd (part m)) (κ g) g : sProp 𝕄))
    ⊢ bigSep Finset.univ (fun e => invsOf (part m) κ e) := by
  refine Entails.of_eq ?_
  refine (bigSep_union disjoint_cells).trans ?_
  rw [bigSep_map, bigSep_map, bigSep_univ_prod]
  refine (bigSep_sep' _ _ _).symm.trans ?_
  exact bigSep_congr fun e _ => by rw [own_fam]; rfl

theorem bars_dealt (Φ : GSem nD τ sig → sProp 𝕄) : bigSep barCells Φ = bigSep Finset.univ (fun c : Dev nD => Φ (barCell c)) :=
  bigSep_map (s := Finset.univ) barEmb (Φ := Φ)
theorem owns_dealt (Φ : GSem nD τ sig → sProp 𝕄) :
    bigSep ownCells Φ = bigSep Finset.univ (fun c : Dev nD => bigSep Finset.univ (fun k : Own => Φ (ownCell c k))) := by
  rw [bigSep_map, bigSep_univ_prod]; rfl

/-- What the launch gives device `c`. -/
abbrev given (c : Dev nD) : sProp 𝕄 :=
  iprop(unscopedBufs c (fun b => m ((c : Thread nD τ).loc b)) ∗ unscopedSems0 c
    ∗ owes (c : Thread nD τ) (O₀ c) ∅ ∗ Pipeline.launchCred O₀ c ∗ prngReg c (ρ c) ∗ G c)

theorem given_split (c : Dev nD) : given m ρ c ⊢ iprop(hold m c ∗ (semVal (barCell c) 0 ∗ G c)) := by
  unfold given
  rw [show (unscopedBufs c (fun b => m ((c : Thread nD τ).loc b)) : sProp 𝕄) = StableHlo.held (c : Thread nD τ) (Pipeline.ucRefs τ sig) (U₀ m c)
    from Pipeline.unscopedBufs_held c (U₀ m c), sems_launch]
  unfold hold
  iintro ⟨Hh, Hs, HO, Hcr, Hp, HG⟩
  isplitr [Hs HG]
  · isplitl [Hh]; · iexact Hh
    isplitl [Hcr]; · iapply (creds (F := F) c); iexact Hcr
    isplitl [HO]; · iexact HO
    iexists (ρ c); iexact Hp
  isplitl [Hs] <;> iassumption

theorem given_all : bigSep Finset.univ (given m ρ)
    ⊢ iprop(bigSep Finset.univ (hold m) ∗ (bigSep barCells (fun g => semVal g 0) ∗ BI.own (ER (launchOf barCells ownCells ringToks)))) := by
  refine (show bigSep Finset.univ (given m ρ) ⊢ bigSep Finset.univ (fun c => iprop(hold m c ∗ (semVal (barCell c) 0 ∗ G c)))
    from bigSep_mono fun c _ => given_split m ρ c).trans ?_
  rw [bigSep_sep', bigSep_sep', bars_dealt]
  unfold G
  rw [onFirst_all]

/-- The launch: the cells funded, and everything dealt to the devices. -/
theorem launch : iprop(bigSep Finset.univ (given m ρ) ∗ levAts L lv) ⊢ |={Set.univ}=> bigSep Finset.univ (first m) := by
  iintro ⟨H, -⟩
  ihave H := (given_all m ρ) $$ H
  icases H with ⟨HB, Hv, Hu⟩
  imod (Rounds.fund_launch ER (ringRd (part m)) disjoint_cells (fun g _ h => h) ringToks) $$ [Hv Hu] with ⟨%κ, -, #Hinv, #Hr, Hat, Hop, Htok⟩
  · isplitl [Hv] <;> iassumption
  imodintro
  iapply (bigSep_with_persistent (R := records m κ) (Φ := fun c => iprop(share c ∗ hold m c)) fun c _ => first_of m κ c)
  isplitr
  · unfold records
    isplitr
    · iapply (invs_dealt m κ); iexact Hinv
    · iapply (Entails.of_eq (bars_dealt (F := F) (fun g => reached ER g 0))); iexact Hr
  rw [bigSep_sep']
  isplitr [HB]
  · unfold share
    rw [bigSep_sep', bigSep_sep']
    isplitl [Hat]
    · iapply (Entails.of_eq (bars_dealt (F := F) (fun g => atPos ER g 0 ∅ 0))); iexact Hat
    isplitl [Hop]
    · iapply (Entails.of_eq (owns_dealt (F := F) (fun g => openTok ER g))); iexact Hop
    iapply (toks_dealt (F := F)); iexact Htok
  · iexact HB

theorem unscoped_eq : ∀ sm : SemLoc sig, sm.isScoped .tc = false → sm = .reg barS := by decide

/-! ## The run -/

set_option backward.isDefEq.respectTransparency.types false in
/-- From any memory with every counter at zero, every run of @main on the eight devices ends, with every buffer of every device
    at `V₂` and every semaphore at zero. -/
theorem run_main : θ_run (defs (F := F)) (onTc (τ := τ) (main (F := F))) ⟨m, fun _ => 0, ρ⟩
    (fun r => (∀ c : Dev nD, ∀ b ∈ Pipeline.ucRefs τ sig, r.2.mem (c, b) = V₂ m c b) ∧ r.2.sem = fun _ => 0) :=
  Pipeline.θ_run_regions_kit_sems (pcfgs (F := F)) adm (dats m) () cellOf_inj EP defs₀ 𝒱₀ L lv m ρ main (parts m)
    (fun c Q => by rw [main_parts m c])
    (by simp only [parts, Pipeline.Seg.pipes_host, Pipeline.Seg.pipes_region, Pipeline.Seg.pipes_nil]; decide)
    (O₀ := O₀) (hL := L_of_ne) (G := G) (u₀ := u₀ (F := F))
    (hu₀ := by
      unfold u₀ G
      iintro Hu
      ihave H := (ownU_pair _ _) $$ Hu
      icases H with ⟨HP, HX⟩
      imodintro
      isplitl [HP]; · iexact HP
      rw [onFirst_all]; iexact HX)
    (T₀ := first m) (Tₙ := final m)
    (hch := by
      refine ⟨fun c => .rfl, fun c => call_pre m c, fun c => call_post m c, fun c => ?_⟩
      show iprop(StableHlo.held (c : Thread nD τ) (Pipeline.ucRefs τ sig) (V₂ m c) ∗ later c)
        ⊢ iprop(final m c ∗ ∃ W, owes (c : Thread nD τ) (0 : CellTallies nD τ sig Unit) W)
      unfold later Yk
      iintro ⟨Hh, Hb, HO⟩
      isplitr [HO]
      · isplitl [Hh] <;> iassumption
      · iexact HO)
    (hinit := launch m ρ)
    (QY := fun c s => (∀ b ∈ Pipeline.ucRefs τ sig, s.mem (c, b) = V₂ m c b) ∧ s.sem (barCell c) = 0)
    (hfin := fun c s' => by
      dsimp only [final]; unfold StableHlo.held
      iintro ⟨⟨Hh, Hb⟩, HSI⟩
      icombine HSI Hb gives %hb
      ihave H := (pointsTo_read_all (Pipeline.ucRefs τ sig) (fun b => ((c : Dev nD), b)) (fun b => V₂ m c b) s') $$ [Hh HSI]
      · isplitl [Hh] <;> iassumption
      icases H with ⟨%hh, HSI⟩
      imodintro
      isplitr
      · ipureintro
        exact ⟨hh, by simpa using hb⟩
      iexact HSI)
    (hQ := fun s h hs => ⟨fun c => (h c).1,
      sem_eq_zero hs fun c sm hsm => by
        obtain rfl := unscoped_eq sm hsm
        exact (h c).2⟩)

/-! ## What the final buffers hold -/

theorem V₂_of_ne (c : Dev nD) (b : DevRef τ sig) (h5 : b ≠ Proc.devRef .tc main_v5) (h4 : b ≠ Proc.devRef .tc main_v4) :
    V₂ m c b = V0 m c b := by
  unfold V₂
  rw [StableHlo.after_of_forall_not_mem hostOps1 _ (List.forall_iff_forall_mem.mp (by
    simp only [hostOps1, List.Forall, StableHlo.reshape_writes, Finset.mem_singleton]; exact h5)), V₁_of_ne m c b h4]

/-- The program's result on device `c`: the ring's, with the leading unit axis put back. -/
theorem V₂_v5 (c : Dev nD) :
    V₂ m c (Proc.devRef .tc main_v5) = shapeCast S1x512x1024 (result m c) shapeCasts_S512x1024_S1x512x1024 := by
  unfold V₂
  rw [StableHlo.after_cons, StableHlo.after_nil, StableHlo.reshape_result, V₁_v4]
  rfl

/-- The run as the claims read it: results, arguments, semaphores. -/
theorem run_result : θ_run (defs (F := F)) (onTc (τ := τ) (main (F := F))) ⟨m, fun _ => 0, ρ⟩
    (fun r => (∀ c : Dev nD, r.2.mem ((c : Thread nD τ).loc main_v5) = shapeCast S1x512x1024 (result m c) shapeCasts_S512x1024_S1x512x1024
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4))
      ∧ r.2.sem = fun _ => 0) :=
  (θ_run _ _ _).mono (fun r h => ⟨fun c =>
    ⟨(h.1 c (Proc.devRef .tc main_v5) (by decide)).trans (V₂_v5 m c),
      ((h.1 c (Proc.devRef .tc main_arg0) (by decide)).trans (V₂_of_ne m c _ (StableHlo.devRef_ne_of_ne (by decide)) (StableHlo.devRef_ne_of_ne (by decide)))).trans (V_main_arg0 m c),
      ((h.1 c (Proc.devRef .tc main_arg1) (by decide)).trans (V₂_of_ne m c _ (StableHlo.devRef_ne_of_ne (by decide)) (StableHlo.devRef_ne_of_ne (by decide)))).trans (V_main_arg1 m c),
      ((h.1 c (Proc.devRef .tc main_arg2) (by decide)).trans (V₂_of_ne m c _ (StableHlo.devRef_ne_of_ne (by decide)) (StableHlo.devRef_ne_of_ne (by decide)))).trans (V_main_arg2 m c),
      ((h.1 c (Proc.devRef .tc main_arg3) (by decide)).trans (V₂_of_ne m c _ (StableHlo.devRef_ne_of_ne (by decide)) (StableHlo.devRef_ne_of_ne (by decide)))).trans (V_main_arg3 m c),
      ((h.1 c (Proc.devRef .tc main_arg4) (by decide)).trans (V₂_of_ne m c _ (StableHlo.devRef_ne_of_ne (by decide)) (StableHlo.devRef_ne_of_ne (by decide)))).trans (V_main_arg4 m c)⟩,
    h.2⟩) (run_main m ρ)

end Cert.KernelIdeal.Ring8

end
-- ==== Proof.KI.RingSum.lean ====
/-
  What the ring leaves over the extended reals: on every device the sum of all the devices' partial products. A step rewrites
  one block of 64 rows from the same rows of the device before, so the walk is read row by row: `outAt_step` is one step at an
  index, and `walk_sum` the fourteen steps for one block of rows, as an arithmetic fact about eight places on a ring.
-/
module

public import proofs.«01_k».proof.Proof.KI.Protocol
public import Idealize.ShloMosaic.PureOps.Ideal.Laws

@[expose] public section

set_option maxRecDepth 16384

noncomputable section

namespace Cert.KernelIdeal.Ring8

open Idealize.ShloMosaic Idealize.ShloMosaic.TcCoe Idealize.SL.Sem
open Cert.KernelIdeal Cert.KernelIdeal.Gen

/-! ## One step at an index -/

/-- The place in the whole array of a place in the block a device rewrites at step `n`. -/
theorem recv_emb_val (n : ℕ) (c : Dev nD) (x : S64x1024.Idx) (a : Fin 2) :
    (((recvRows n c).emb x : S512x1024.Idx) a).val = recvOff n c a + (x a).val := by
  show ((rowRect (recvOff n c) (recvOff_inb n c)).emb x a).val = _
  simp [Rect.emb, Rect.unit]

/-- The block that lands has the same places in the array of the device before. -/
theorem send_emb_eq (n : ℕ) (hn : n < 14) (c : Dev nD) (x : S64x1024.Idx) :
    ((sendRows n (prv c)).view.emb x : S512x1024.Idx) = ((recvRows n c).emb x : S512x1024.Idx) := by
  funext a
  apply Fin.ext
  rw [recv_emb_val, ← sendOff_prv n hn c]
  show ((rowRect (sendOff n (prv c)) (sendOff_inb n (prv c))).emb x a).val = _
  simp [Rect.emb, Rect.unit]

/-- The extended real at a place of a result buffer. -/
abbrev valAt (f : OutC Ideal) (i : S512x1024.Idx) : EReal := f i

variable (P : Dev nD → OutC Ideal)

/-- A place in the block rewritten at step `n`. -/
theorem mem_recv (n : ℕ) (c : Dev nD) (i : S512x1024.Idx) (h : (i 0).val / 64 = (c.val + 15 - n) % 8) :
    ∃ x : S64x1024.Idx, ((recvRows n c).emb x : S512x1024.Idx) = i := by
  have h0 : (i 0).val < 512 := (i 0).isLt
  refine ⟨fun a => match a with | ⟨0, _⟩ => ⟨(i 0).val % 64, Nat.mod_lt _ (by decide)⟩ | ⟨1, _⟩ => ⟨(i 1).val, (i 1).isLt⟩, ?_⟩
  funext a
  apply Fin.ext
  rw [recv_emb_val]
  match a with
  | ⟨0, _⟩ => show 64 * ((c.val + 15 - n) % 8) + (i 0).val % 64 = (i 0).val; omega
  | ⟨1, _⟩ => show 0 + (i 1).val = (i 1).val; omega

/-- One step at an index: a place of the rewritten block takes its sum with, or its value on, the device before. -/
theorem outAt_step (n : ℕ) (hn : n < 14) (c : Dev nD) (i : S512x1024.Idx) :
    valAt (outAt P (n + 1) c) i = if (i 0).val / 64 = (c.val + 15 - n) % 8
      then (if n < 7 then valAt (outAt P n c) i + valAt (outAt P n (prv c)) i else valAt (outAt P n (prv c)) i)
      else valAt (outAt P n c) i := by
  rw [outAt_succ]
  unfold stepOut
  by_cases h : (i 0).val / 64 = (c.val + 15 - n) % 8
  · obtain ⟨x, rfl⟩ := mem_recv n c i h
    have hl : landAt P n c x = outAt P n (prv c) ((recvRows n c).emb x) :=
      congrArg (outAt P n (prv c)) (send_emb_eq n hn c x)
    rw [if_pos h]
    by_cases h7 : n < 7
    · rw [if_pos h7, if_pos h7]
      refine (View.write_emb_of_mem (v := recvRows n c) _ _ (Finset.mem_univ x)).trans ?_
      exact congrArg (fun z : EReal => valAt (outAt P n c) ((recvRows n c).emb x) + z) hl
    · rw [if_neg h7, if_neg h7]
      exact (View.write_emb_of_mem (v := recvRows n c) _ _ (Finset.mem_univ x)).trans hl
  · rw [if_neg h]
    have hi : i ∉ (recvRows n c).setOn Finset.univ := fun hm => h (by
      obtain ⟨x, -, rfl⟩ := Finset.mem_map.1 hm
      have e := recv_emb_val n c x 0
      have hx : (x 0).val < 64 := (x 0).isLt
      rw [e]
      show (64 * ((c.val + 15 - n) % 8) + (x 0).val) / 64 = _
      omega)
    split
    · exact View.write_of_not_mem (v := recvRows n c) _ _ _ hi
    · exact View.write_of_not_mem (v := recvRows n c) _ _ _ hi

/-! ## Eight places on a ring -/

/-- The device `k` places after place `b`. -/
def place (b k : ℕ) : Dev nD := ⟨(b + k) % 8, Nat.mod_lt _ (by decide)⟩

/-- The sum over a run of devices from place `b` on. -/
def run (p : Dev nD → EReal) (b k : ℕ) : EReal := ∑ j ∈ Finset.range (k + 1), p (place b j)

theorem run_zero (p : Dev nD → EReal) (b : ℕ) : run p b 0 = p (place b 0) := by
  unfold run; rw [Finset.sum_range_one]
theorem run_succ (p : Dev nD → EReal) (b k : ℕ) : run p b (k + 1) = run p b k + p (place b (k + 1)) := by
  unfold run; rw [Finset.sum_range_succ]

/-- Eight devices from any place on are all of them. -/
theorem run_seven (p : Dev nD → EReal) (b : ℕ) : run p b 7 = ∑ d, p d := by
  unfold run
  rw [← Fin.sum_univ_eq_sum_range (fun j => p (place b j)) 8]
  refine Fintype.sum_bijective (fun j : Fin 8 => place b j.val) ?_ _ _ fun _ => rfl
  refine (Finite.injective_iff_bijective (α := Fin 8) (f := fun j : Fin 8 => (place b j.val : Fin 8))).1 fun j k h => Fin.ext ?_
  have h := congrArg Fin.val h
  have hj := j.isLt
  have hk := k.isLt
  simp only [place] at h
  omega

variable (p : Dev nD → EReal) (b : ℕ) (hb : b < 8) (g : ℕ → Dev nD → EReal) (h0 : ∀ c, g 0 c = p c)
  (hg : ∀ n, n < 14 → ∀ c : Dev nD, g (n + 1) c
    = if b = (c.val + 15 - n) % 8 then (if n < 7 then g n c + g n (prv c) else g n (prv c)) else g n c)

include hb h0 hg

/-- The first seven steps: after `n` of them the `k`-th device from the block's own holds the sum over the devices from there
    to itself if `k ≤ n`, and its own part otherwise. -/
theorem walk_add (n : ℕ) (hn : n ≤ 7) (k : ℕ) (hk : k < 8) :
    g n (place b k) = if k ≤ n then run p b k else p (place b k) := by
  induction n generalizing k with
  | zero =>
    rw [h0]
    by_cases h : k ≤ 0
    · obtain rfl : k = 0 := by omega
      rw [if_pos h, run_zero]
    · rw [if_neg h]
  | succ n ih =>
    rw [hg n (by omega)]
    by_cases h : k = n + 1
    · subst h
      have hp : prv (place b (n + 1)) = place b n := Fin.ext (by rw [prv_val]; simp only [place]; omega)
      rw [if_pos (by simp only [place]; omega), if_pos (by omega), hp, ih (by omega) n (by omega), ih (by omega) (n + 1) hk,
        if_neg (by omega), if_pos le_rfl, if_pos le_rfl, run_succ, add_comm]
    · rw [if_neg (by simp only [place]; omega), ih (by omega) k hk]
      by_cases hkn : k ≤ n
      · rw [if_pos hkn, if_pos (by omega)]
      · rw [if_neg hkn, if_neg (by omega)]

/-- The last seven steps hand the sum on: after `n` of them the device before the block's own and the first `n` devices from
    the block's own on hold the whole sum. -/
theorem walk_copy (n : ℕ) (hn : n ≤ 7) (k : ℕ) (hk : k < 8) (h : k = 7 ∨ k < n) : g (7 + n) (place b k) = ∑ d, p d := by
  induction n generalizing k with
  | zero =>
    obtain rfl : k = 7 := by omega
    rw [← run_seven p b]
    exact (walk_add p b hb g h0 hg 7 le_rfl 7 hk).trans (if_pos le_rfl)
  | succ n ih =>
    rw [show 7 + (n + 1) = (7 + n) + 1 from rfl, hg (7 + n) (by omega)]
    by_cases hkn : k = n
    · have hp : ∃ k', k' < 8 ∧ (k' = 7 ∨ k' < n) ∧ prv (place b k) = place b k' := by
        refine ⟨(n + 7) % 8, by omega, by omega, Fin.ext ?_⟩
        rw [prv_val]; simp only [place]; omega
      obtain ⟨k', hk', h', e⟩ := hp
      by_cases hc : b = ((place b k).val + 15 - (7 + n)) % 8
      · rw [if_pos hc, if_neg (by omega), e, ih (by omega) k' hk' h']
      · exact absurd (by simp only [place]; omega) hc
    · rw [if_neg (by simp only [place]; omega), ih (by omega) k hk (by omega)]

/-- After the fourteen steps every device holds the sum. -/
theorem walk_sum (c : Dev nD) : g 14 c = ∑ d, p d := by
  have hc : c.val < 8 := c.isLt
  have e : c = place b ((c.val + 8 - b) % 8) := Fin.ext (by simp only [place]; omega)
  rw [e]
  exact walk_copy p b hb g h0 hg 7 le_rfl _ (by omega) (by omega)

omit hb h0 hg

/-- The ring leaves on every device the sum of the partial products. -/
theorem outAt_sum (c : Dev nD) (i : S512x1024.Idx) : valAt (outAt P 14 c) i = ∑ d, valAt (P d) i :=
  walk_sum (fun d => valAt (P d) i) ((i 0).val / 64) (by have : (i 0).val < 512 := (i 0).isLt; omega) (fun n c => valAt (outAt P n c) i)
    (fun _ => rfl) (fun n hn c => outAt_step P n hn c i) c

end Cert.KernelIdeal.Ring8

end
-- ==== Proof.Math.Softmax.lean ====
/-
  Softmax-weighted means over the extended reals. `attn s v` is the mean of the values `v` under the weights
  `exp (s j - max s)`; `online` computes the same from two halves of the row, rescaling what the first half gave by
  `exp (m₁ - m)` when the maximum grows. `online_eq` states that they agree, at every extended real: an infinite score makes
  the weights zero in both.
-/
module

public import Idealize.ShloMosaic.PureOps.Ideal.Laws

@[expose] public section

noncomputable section

namespace Cert.Softmax

open Idealize.ShloMosaic

/-! ## Sums and multipliers -/

/-- A nonnegative finite multiplier distributes over a finite sum. -/
theorem sum_mul_real {ι : Type} (t : Finset ι) (f : ι → EReal) {a : EReal} (h0 : 0 ≤ a) (ht : a ≠ ⊤) :
    (∑ j ∈ t, f j) * a = ∑ j ∈ t, f j * a := by
  classical
  induction t using Finset.induction_on with
  | empty => simp
  | insert j t hj ih =>
    rw [Finset.sum_insert hj, Finset.sum_insert hj, EReal.right_distrib_of_nonneg_of_ne_top h0 ht, ih]

/-! ## The exponential of a difference -/

theorem sub_top (x : EReal) : x - ⊤ = ⊥ := by rw [sub_eq_add_neg, EReal.neg_top, EReal.add_bot]
theorem bot_sub (x : EReal) : (⊥ : EReal) - x = ⊥ := by rw [sub_eq_add_neg, EReal.bot_add]

/-- `exp (x - m) * exp (m - M) = exp (x - M)` for reals `m`, `M` and `x` not plus infinity. -/
theorem exp_chain (x : EReal) (hx : x ≠ ⊤) (m M : ℝ) :
    Ideal.exp (x - m) * Ideal.exp ((m : EReal) - M) = Ideal.exp (x - M) := by
  induction x with
  | bot => rw [bot_sub, bot_sub, Ideal.exp_bot, zero_mul]
  | top => exact absurd rfl hx
  | coe r =>
    rw [← EReal.coe_sub, ← EReal.coe_sub, ← EReal.coe_sub, Ideal.exp_coe, Ideal.exp_coe, Ideal.exp_coe, ← EReal.coe_mul,
      ← Real.exp_add]
    congr 2; ring

variable {ι : Type} [Fintype ι]

/-- A weighted sum taken relative to the row's maximum `m`, rescaled to a larger maximum `M`. -/
theorem rescale (s v : ι → EReal) (M : EReal) (hM : Finset.univ.sup s ≤ M) :
    (∑ j, Ideal.exp (s j - Finset.univ.sup s) * v j) * Ideal.exp (Finset.univ.sup s - M)
      = ∑ j, Ideal.exp (s j - M) * v j := by
  have hle : ∀ j, s j ≤ Finset.univ.sup s := fun j => Finset.le_sup (Finset.mem_univ j)
  generalize Finset.univ.sup s = m at hM hle
  by_cases hT : M = ⊤
  · subst hT
    simp only [sub_top, Ideal.exp_bot, mul_zero, zero_mul, Finset.sum_const_zero]
  by_cases hB : m = ⊥
  · subst hB
    have hs : ∀ j, s j = ⊥ := fun j => le_bot_iff.1 (hle j)
    simp only [hs, bot_sub, Ideal.exp_bot, mul_zero, zero_mul, Finset.sum_const_zero]
  have hmT : m ≠ ⊤ := fun h => hT (top_le_iff.1 (h ▸ hM))
  have hMB : M ≠ ⊥ := fun h => hB (le_bot_iff.1 (h ▸ hM))
  obtain ⟨m, rfl⟩ : ∃ r : ℝ, (r : EReal) = m := ⟨m.toReal, EReal.coe_toReal hmT hB⟩
  obtain ⟨M, rfl⟩ : ∃ r : ℝ, (r : EReal) = M := ⟨M.toReal, EReal.coe_toReal hT hMB⟩
  have ha : Ideal.exp ((m : EReal) - M) = ((Real.exp (m - M) : ℝ) : EReal) := by rw [← EReal.coe_sub, Ideal.exp_coe]
  rw [sum_mul_real _ _ (by rw [ha]; exact EReal.coe_nonneg.2 (Real.exp_pos _).le) (by rw [ha]; exact EReal.coe_ne_top _)]
  refine Finset.sum_congr rfl fun j _ => ?_
  rw [mul_right_comm, exp_chain _ (fun h => hmT (top_le_iff.1 (h ▸ hle j)))]

/-- The same of the weights alone. -/
theorem rescale_one (s : ι → EReal) (M : EReal) (hM : Finset.univ.sup s ≤ M) :
    (∑ j, Ideal.exp (s j - Finset.univ.sup s)) * Ideal.exp (Finset.univ.sup s - M) = ∑ j, Ideal.exp (s j - M) := by
  simpa only [mul_one] using rescale s (fun _ => 1) M hM

/-! ## The mean, whole and in two halves -/

/-- The mean of `v` under the softmax weights of the scores `s`. -/
def attn (s v : ι → EReal) : EReal :=
  Ideal.div (∑ j, Ideal.exp (s j - Finset.univ.sup s) * v j) (∑ j, Ideal.exp (s j - Finset.univ.sup s))

/-- The largest of a row split in two. -/
theorem sup_split {n : ℕ} (s : Fin (n + n) → EReal) :
    Finset.univ.sup s = max (Finset.univ.sup fun j => s (Fin.castAdd n j)) (Finset.univ.sup fun j => s (Fin.natAdd n j)) := by
  apply le_antisymm
  · refine Finset.sup_le fun j _ => ?_
    refine Fin.addCases (fun i => ?_) (fun i => ?_) j
    · exact le_max_of_le_left (Finset.le_sup (f := fun j => s (Fin.castAdd n j)) (Finset.mem_univ i))
    · exact le_max_of_le_right (Finset.le_sup (f := fun j => s (Fin.natAdd n j)) (Finset.mem_univ i))
  · exact max_le (Finset.sup_le fun j _ => Finset.le_sup (Finset.mem_univ _)) (Finset.sup_le fun j _ => Finset.le_sup (Finset.mem_univ _))

/-- The mean from the two halves `s₁`, `s₂` of the scores and `v₁`, `v₂` of the values, as an online softmax takes it: start
    from the maximum minus infinity and zero sums, and rescale the sums at each half. -/
def online {n : ℕ} (s₁ s₂ v₁ v₂ : Fin n → EReal) : EReal :=
  have m₁ := max ⊥ (Finset.univ.sup s₁)
  have l₁ := 0 * Ideal.exp (⊥ - m₁) + ∑ j, Ideal.exp (s₁ j - m₁)
  have o₁ := 0 * Ideal.exp (⊥ - m₁) + ∑ j, v₁ j * Ideal.exp (s₁ j - m₁)
  have m₂ := max m₁ (Finset.univ.sup s₂)
  have l₂ := l₁ * Ideal.exp (m₁ - m₂) + ∑ j, Ideal.exp (s₂ j - m₂)
  have o₂ := o₁ * Ideal.exp (m₁ - m₂) + ∑ j, v₂ j * Ideal.exp (s₂ j - m₂)
  Ideal.div o₂ l₂

/-- The two halves give the whole row's mean. -/
theorem online_eq {n : ℕ} (s v : Fin (n + n) → EReal) :
    online (fun j => s (Fin.castAdd n j)) (fun j => s (Fin.natAdd n j)) (fun j => v (Fin.castAdd n j)) (fun j => v (Fin.natAdd n j))
      = attn s v := by
  unfold online attn
  simp only [zero_mul, zero_add, max_eq_right (bot_le (a := Finset.univ.sup fun j => s (Fin.castAdd n j)))]
  rw [← sup_split]
  have hM : (Finset.univ.sup fun j => s (Fin.castAdd n j)) ≤ Finset.univ.sup s := by rw [sup_split]; exact le_max_left _ _
  simp only [mul_comm (v _)]
  rw [rescale_one _ _ hM, rescale (fun j => s (Fin.castAdd n j)) (fun j => v (Fin.castAdd n j)) _ hM, Fin.sum_univ_add (fun j => Ideal.exp (s j - Finset.univ.sup s) * v j),
    Fin.sum_univ_add (fun j => Ideal.exp (s j - Finset.univ.sup s))]

/-! ## Sums over a product of two ranges -/

/-- A sum over `m * n` positions is a sum over `m` groups of `n`. -/
theorem sum_groups (m n : ℕ) (f : Fin (m * n) → EReal) :
    ∑ k, f k = ∑ a : Fin m, ∑ b : Fin n, f (finProdFinEquiv (a, b)) := by
  rw [← Fintype.sum_prod_type', ← finProdFinEquiv.sum_comp]

theorem groups_val {m n : ℕ} (a : Fin m) (b : Fin n) : (finProdFinEquiv (a, b)).val = n * a.val + b.val := by
  rw [finProdFinEquiv_apply_val]; exact add_comm _ _

end Cert.Softmax

end
-- ==== Proof.Math.Head.lean ====
/-
  The function the programs compute, over the extended reals: attention heads, and the product of all the heads with the output
  weights. `head` is one row of one head; `cross` an entry of the product over any number of heads. `cross_split` cuts the heads
  into groups of eight, one group a device.
-/
module

public import proofs.«01_k».proof.Proof.Math.Softmax

@[expose] public section

noncomputable section

namespace Cert.Softmax

open Idealize.ShloMosaic

/-- The multiplier of the scores. -/
def scale : EReal := Ideal.ofBits .f32 0x3DB504F3#32

theorem ofBits_negInf : Ideal.ofBits .f32 0xFF800000#32 = ⊥ := by simp [Ideal.ofBits, Ideal.ieee]

/-- One row of a head: the mean of the values under the scaled scores of the query `q` against the keys. -/
def head {n d : ℕ} (q : Fin d → EReal) (K V : Fin n → Fin d → EReal) (e : Fin d) : EReal :=
  attn (fun j => (∑ e, q e * K j e) * scale) (fun j => V j e)

/-- One row of the product of `N` heads of width 128 with the output weights: the queries are the row `x` times the query
    weights `wq`, the heads' columns lie side by side in `wq` and the heads' rows one after another in `wo`. -/
def cross (N : ℕ) (x : Fin 1024 → EReal) (wq : Fin 1024 → Fin N → Fin 128 → EReal) (K V : Fin 2048 → Fin N → Fin 128 → EReal)
    (wo : Fin N → Fin 128 → EReal) : EReal :=
  ∑ h : Fin N, ∑ e : Fin 128, head (fun e' => ∑ t, x t * wq t h e') (fun j => K j h) (fun j => V j h) e * wo h e

/-- The heads in groups: the whole product is the sum of the groups' products. -/
theorem cross_split (m n : ℕ) (x : Fin 1024 → EReal) (wq : Fin 1024 → Fin (m * n) → Fin 128 → EReal)
    (K V : Fin 2048 → Fin (m * n) → Fin 128 → EReal) (wo : Fin (m * n) → Fin 128 → EReal) :
    cross (m * n) x wq K V wo = ∑ c : Fin m, cross n x (fun t h => wq t (finProdFinEquiv (c, h)))
      (fun j h => K j (finProdFinEquiv (c, h))) (fun j h => V j (finProdFinEquiv (c, h))) (fun h => wo (finProdFinEquiv (c, h))) := by
  unfold cross
  exact sum_groups m n _

end Cert.Softmax

end
-- ==== Proof.KI.PartValue.lean ====
/-
  One device's partial product over the extended reals, index by index: its eight heads of attention times its rows of the
  output weights.
-/
module

public import proofs.«01_k».proof.Proof.KI.Steps
public import proofs.«01_k».proof.Proof.Math.Head
public import Idealize.ShloMosaic.Lib.MatmulPlain
public import Idealize.ShloMosaic.Lib.ValueIdx
public import Idealize.ShloMosaic.Lib.Pipeline.Value

@[expose] public section

set_option maxRecDepth 16384

noncomputable section

namespace Cert.KernelIdeal.Ring8

open Idealize.ShloMosaic Idealize.ShloMosaic.TcCoe Idealize.SL.Sem Idealize.ShloMosaic.ValueIdx
open Cert.KernelIdeal Cert.KernelIdeal.Gen Cert.Softmax

/-! ## Rows -/

theorem lift_row (i : Fin 512) (k : Fin 2048) : reduces_S512x2048_S512.lift (ix1 i) k = ix2 i k := by
  funext a; apply Fin.ext
  match a with
  | ⟨0, _⟩ => rfl
  | ⟨1, _⟩ => rfl

/-- A row's maximum. -/
theorem rowMax (s : FVec Ideal S512x2048 .f32) (i : Fin 512) :
    multiReduction .maximumf [1] S512 s 0xFF800000#32 reduces_S512x2048_S512 (.inl rfl) rfl (ix1 i)
      = Finset.univ.sup fun j : Fin 2048 => (s (ix2 i j) : EReal) := by
  refine (Ideal.multiReduction_maximumf_single s 0xFF800000#32 reduces_S512x2048_S512 (.inl rfl) rfl (ix1 i)).trans ?_
  rw [Ideal.ofBits_def, ofBits_negInf]
  exact Finset.fold_congr fun k _ => congrArg s (lift_row i k)

/-- A row's sum. -/
theorem rowSum (s : FVec Ideal S512x2048 .f32) (i : Fin 512) :
    multiReduction .add [1] S512 s 0x00000000#32 reduces_S512x2048_S512 (.inl rfl) rfl (ix1 i)
      = ∑ j : Fin 2048, (s (ix2 i j) : EReal) := by
  refine (Ideal.multiReduction_add_single s _ reduces_S512x2048_S512 (.inl rfl) rfl (ix1 i)).trans ?_
  exact Finset.sum_congr rfl fun k _ => congrArg s (lift_row i k)

/-- A column spread over `n` columns. -/
theorem spread {n : ℕ} (x : FVec Ideal S512 .f32) (h : S512x1.Broadcasts ⟨2, ![512, n]⟩) (i : Fin 512) (j : Fin n) :
    broadcastTo ⟨2, ![512, n]⟩ (shapeCast S512x1 x shapeCasts_S512_S512x1) h (ix2 i j) = x (ix1 i) := by
  rw [broadcastTo_apply _ _ _ (ix2 i (0 : Fin 1)) (fun a => by
    match a with
    | ⟨0, _⟩ => rfl
    | ⟨1, _⟩ => rfl)]
  exact shapeCast_apply _ _ _ _ (by rw [Shape.rowMajor_val_one, Shape.rowMajor_val_two]; show i.val = i.val * 1 + 0; omega)

/-- A head's keys or values without their middle axis. -/
theorem flat_apply (x : Vec Ideal S2048x1x128 .bf16) (j : Fin 2048) (e : Fin 128) :
    shapeCast S2048x128 x shapeCasts_S2048x1x128_S2048x128 (ix2 j e) = x (ix3 j (0 : Fin 1) e) :=
  shapeCast_apply _ _ _ _ (by
    rw [Shape.rowMajor_val_three, Shape.rowMajor_val_two]
    show (j.val * 1 + 0) * 128 + e.val = j.val * 128 + e.val
    omega)

/-! ## One head -/

/-- A head's scores. -/
theorem score_apply (q : FVec Ideal S512x1024 .f32) (h : ℕ) (hs : S512x1024.Slices ![0, 128 * h] S512x128) (hh : h < 8)
    (k : Vec Ideal S2048x1x128 .bf16) (i : Fin 512) (j : Fin 2048) :
    (mulf (matmul (φ₂ := .bf16) dot_S512x128_S2048x128_S512x2048_1_1_0_0_n_n none
      (truncf .bf16 (extractStridedSlice S512x128 ![0, 128 * h] q hs) bitsLt_bf16_f32)
      (shapeCast S2048x128 k shapeCasts_S2048x1x128_S2048x128) (constant S512x2048 .f32 0x00000000#32))
      (broadcast S512x2048 (Scalar.ofBits .f32 0x3DB504F3#32)) : FVec Ideal S512x2048 .f32) (ix2 i j)
      = (∑ e : Fin 128, (q (ix2 i ⟨128 * h + e.val, by omega⟩) : EReal) * (k (ix3 j (0 : Fin 1) e) : EReal)) * scale := by
  refine congrArg (· * scale) ?_
  refine (Ideal.matmul_transposedRhs_apply (M := 512) (K := 128) (N := 2048) none _ _ _ i j).trans ?_
  rw [constant_apply, Ideal.ofBits_zero_f32, zero_add]
  refine Finset.sum_congr rfl fun e _ => congrArg₂ (· * ·) ?_ (flat_apply k j e)
  refine extractStridedSlice_apply (![0, 128 * h] : Fin 2 → ℕ) q hs (ix2 i e) (ix2 i ⟨128 * h + e.val, by omega⟩) (fun a => by
    match a with
    | ⟨0, _⟩ => show i.val = 0 + i.val; omega
    | ⟨1, _⟩ => rfl)

/-- One head's output at a row and a column. -/
theorem headOut_apply (q : FVec Ideal S512x1024 .f32) (h : ℕ) (hs : S512x1024.Slices ![0, 128 * h] S512x128) (hh : h < 8)
    (kv : Vec Ideal S2048x1x128 .bf16 × Vec Ideal S2048x1x128 .bf16) (i : Fin 512) (d : Fin 128) :
    (headOut q h hs kv (ix2 i d) : EReal) = head (fun e => (q (ix2 i ⟨128 * h + e.val, by omega⟩) : EReal))
      (fun j e => (kv.1 (ix3 j (0 : Fin 1) e) : EReal)) (fun j e => (kv.2 (ix3 j (0 : Fin 1) e) : EReal)) d := by
  unfold headOut
  have hsc := score_apply q h hs hh kv.1 i
  revert hsc
  generalize (mulf _ _ : FVec Ideal S512x2048 .f32) = s
  intro hsc
  have hp : ∀ j : Fin 2048, ((exp (subf s (broadcastTo S512x2048
      (shapeCast S512x1 (multiReduction .maximumf [1] S512 s 0xFF800000#32 reduces_S512x2048_S512 (.inl rfl) rfl)
        shapeCasts_S512_S512x1) broadcasts_S512x1_S512x2048)) : FVec Ideal S512x2048 .f32) (ix2 i j) : EReal)
      = Ideal.exp ((s (ix2 i j) : EReal) - Finset.univ.sup fun j : Fin 2048 => (s (ix2 i j) : EReal)) := fun j =>
    congrArg (fun z : EReal => Ideal.exp ((s (ix2 i j) : EReal) - z)) ((spread _ broadcasts_S512x1_S512x2048 i j).trans (rowMax s i))
  revert hp
  generalize (exp _ : FVec Ideal S512x2048 .f32) = p
  intro hp
  simp only [hsc] at hp
  unfold head attn
  refine congrArg₂ Ideal.div ?_ ?_
  · refine (Ideal.matmul_plain_apply (M := 512) (K := 2048) (N := 128) none _ _ _ i d).trans ?_
    rw [constant_apply, Ideal.ofBits_zero_f32, zero_add]
    exact Finset.sum_congr rfl fun j _ => congrArg₂ (· * ·) (hp j) (flat_apply kv.2 j d)
  · refine (spread _ broadcasts_S512x1_S512x128 i d).trans ((rowSum p i).trans ?_)
    exact Finset.sum_congr rfl fun j _ => hp j

/-! ## The queries, and the product of the heads -/

/-- The queries at a row and a column. -/
theorem queries_apply (x : Vec Ideal S512x1024 .bf16) (wq : Vec Ideal S1024x1024 .bf16) (i : Fin 512) (k : Fin 1024) :
    (queries x wq (ix2 i k) : EReal) = ∑ t : Fin 1024, (x (ix2 i t) : EReal) * (wq (ix2 t k) : EReal) := by
  unfold queries
  rw [shapeCast_self, shapeCast_self]
  refine (Ideal.matmul_plain_apply (M := 512) (K := 1024) (N := 1024) none _ _ _ i k).trans ?_
  rw [constant_apply, Ideal.ofBits_zero_f32, zero_add]

/-- Eight arrays of 128 columns, as the pieces of a concatenation. -/
abbrev pieces (f : Fin 8 → FVec Ideal S512x128 .f32) : List ((s : Shape) × (s.Idx → Ideal .f32)) :=
  [⟨S512x128, f 0⟩, ⟨S512x128, f 1⟩, ⟨S512x128, f 2⟩, ⟨S512x128, f 3⟩, ⟨S512x128, f 4⟩, ⟨S512x128, f 5⟩, ⟨S512x128, f 6⟩, ⟨S512x128, f 7⟩]

/-- Eight arrays of 128 columns side by side, at a column of the `h`-th. -/
theorem beside_apply (f : Fin 8 → FVec Ideal S512x128 .f32) (i : Fin 512) (h : Fin 8) (e : Fin 128) :
    concatenate S512x1024 1 (pieces f)
      concatenates_S512x128_S512x128_S512x128_S512x128_S512x128_S512x128_S512x128_S512x128_S512x1024_d1
      (ix2 i (finProdFinEquiv (h, e))) = f h (ix2 i e) := by
  refine concatenate_apply_piece (t := S512x1024) 1 (pieces f) _ _ h.val (by exact h.isLt) S512x128 (f h) ?_ rfl (128 * h.val) ?_ (ix2 i e) ?_ ?_
  · fin_cases h <;> rfl
  · fin_cases h <;> rfl
  · intro b hb
    match b with
    | ⟨0, _⟩ => rfl
    | ⟨1, _⟩ => exact absurd rfl hb
  · exact (groups_val h e).symm

/-- A device's partial product at a row and a column. -/
theorem partVal_apply (x : Vec Ideal S512x1024 .bf16) (wq : Vec Ideal S1024x1024 .bf16)
    (kv : Fin 8 → Vec Ideal S2048x1x128 .bf16 × Vec Ideal S2048x1x128 .bf16) (wo : Vec Ideal S1024x1024 .bf16) (i : Fin 512) (n : Fin 1024) :
    (partVal x wq kv wo (ix2 i n) : EReal) = cross 8 (fun t => (x (ix2 i t) : EReal))
      (fun t h e => (wq (ix2 t (finProdFinEquiv (h, e))) : EReal)) (fun j h e => ((kv h).1 (ix3 j (0 : Fin 1) e) : EReal))
      (fun j h e => ((kv h).2 (ix3 j (0 : Fin 1) e) : EReal)) (fun h e => (wo (ix2 (finProdFinEquiv (h, e)) n) : EReal)) := by
  unfold partVal cross
  rw [shapeCast_self]
  refine (Ideal.matmul_plain_apply (M := 512) (K := 1024) (N := 1024) none _ _ _ i n).trans ?_
  rw [constant_apply, Ideal.ofBits_zero_f32, zero_add]
  refine (sum_groups 8 128 _).trans (Finset.sum_congr rfl fun h _ => Finset.sum_congr rfl fun e _ => congrArg₂ (· * ·) ?_ rfl)
  have hs : ∀ h : Fin 8, S512x1024.Slices ![0, 128 * h.val] S512x128 := fun h => by
    refine ⟨rfl, fun a => ?_⟩
    match a with
    | ⟨0, _⟩ => exact (by decide : 0 + 512 ≤ 512)
    | ⟨1, _⟩ => show 128 * h.val + 128 ≤ 1024; omega
  refine (beside_apply (fun h => headOut (queries x wq) h.val (hs h) (kv h)) i h e).trans ?_
  refine (headOut_apply (queries x wq) h.val (hs h) h.isLt (kv h) i e).trans ?_
  congr 1
  funext e'
  refine (queries_apply x wq i _).trans (Finset.sum_congr rfl fun t _ => congrArg (fun k => (x (ix2 i t) : EReal) * (wq (ix2 t k) : EReal)) ?_)
  exact Fin.ext (groups_val h e').symm

end Cert.KernelIdeal.Ring8

end
-- ==== Proof.KI.Entry.lean ====
/-
  The result of the ring read from the program's own arguments: the host lines before the call only drop unit axes, and the body
  reads one head of the keys and values at a time.
-/
module

public import proofs.«01_k».proof.Proof.KI.Data
public import proofs.«01_k».proof.Proof.KI.RingSum
public import proofs.«01_k».proof.Proof.KI.PartValue

@[expose] public section

set_option maxRecDepth 16384

noncomputable section

namespace Cert.KernelIdeal.Ring8

open Idealize.ShloMosaic Idealize.ShloMosaic.TcCoe Idealize.SL.Sem Idealize.ShloMosaic.ValueIdx
open Cert.KernelIdeal Cert.KernelIdeal.Gen Cert.Softmax

section Host

variable {F : FTy → Type} [FloatOps F] (m : (ℓ : Loc nD τ sig) → Buf (Elt F) ℓ)

/-- The activations as the kernel finds them: the argument without its unit axis. -/
theorem inX_eq (c : Dev nD) :
    inX m c = shapeCast S512x1024 (m ((c : Thread nD τ).loc main_arg0)) shapeCasts_S1x512x1024_S512x1024 := by
  show StableHlo.after (List.flatten [hostOps0]) (fun b => m (c, b)) (Proc.devRef .tc main_v1) = _
  simp only [hostOps0, List.flatten_cons, List.flatten_nil, List.append_nil]
  rw [StableHlo.after_cons, StableHlo.after_cons, StableHlo.after_cons, StableHlo.after_nil,
    StableHlo.reshape_result_ne _ _ _ _ _ _ _ (by decide), StableHlo.reshape_result_ne _ _ _ _ _ _ _ (by decide),
    StableHlo.reshape_result]
  rfl

/-- So the keys. -/
theorem inK_eq (c : Dev nD) :
    inK m c = shapeCast S2048x8x128 (m ((c : Thread nD τ).loc main_arg2)) shapeCasts_S1x2048x8x128_S2048x8x128 := by
  show StableHlo.after (List.flatten [hostOps0]) (fun b => m (c, b)) (Proc.devRef .tc main_v2) = _
  simp only [hostOps0, List.flatten_cons, List.flatten_nil, List.append_nil]
  rw [StableHlo.after_cons, StableHlo.after_cons, StableHlo.after_cons, StableHlo.after_nil,
    StableHlo.reshape_result_ne _ _ _ _ _ _ _ (by decide), StableHlo.reshape_result,
    StableHlo.reshape_result_ne _ _ _ _ _ _ _ (by decide)]
  rfl

/-- And the values. -/
theorem inV_eq (c : Dev nD) :
    inV m c = shapeCast S2048x8x128 (m ((c : Thread nD τ).loc main_arg3)) shapeCasts_S1x2048x8x128_S2048x8x128 := by
  show StableHlo.after (List.flatten [hostOps0]) (fun b => m (c, b)) (Proc.devRef .tc main_v3) = _
  simp only [hostOps0, List.flatten_cons, List.flatten_nil, List.append_nil]
  rw [StableHlo.after_cons, StableHlo.after_cons, StableHlo.after_cons, StableHlo.after_nil,
    StableHlo.reshape_result, StableHlo.reshape_result_ne _ _ _ _ _ _ _ (by decide),
    StableHlo.reshape_result_ne _ _ _ _ _ _ _ (by decide)]
  rfl

end Host

/-! ## Places -/

/-- A place of head `h` in the array of eight heads. -/
theorem head_emb (h : Fin 8) (j : Fin 2048) (e : Fin 128) :
    ((headRect h).emb (ix3 j (0 : Fin 1) e) : S2048x8x128.Idx) = ix3 j h e := by
  funext a
  apply Fin.ext
  fin_cases a <;> simp [headRect, Rect.emb, Rect.unit, ix3]

/-- A row of the activations without the unit axis. -/
theorem drop3 (x : FVec Ideal S1x512x1024 .bf16) (i : Fin 512) (t : Fin 1024) :
    shapeCast S512x1024 x shapeCasts_S1x512x1024_S512x1024 (ix2 i t) = x (ix3 (0 : Fin 1) i t) :=
  shapeCast_apply x _ _ _ (by
    rw [Shape.rowMajor_val_two, Shape.rowMajor_val_three]
    show ((0 * 512 + i.val) * 1024 + t.val : ℕ) = i.val * 1024 + t.val
    omega)

/-- A key of a head without the unit axis. -/
theorem drop4 (x : FVec Ideal S1x2048x8x128 .bf16) (j : Fin 2048) (h : Fin 8) (e : Fin 128) :
    shapeCast S2048x8x128 x shapeCasts_S1x2048x8x128_S2048x8x128 (ix3 j h e) = x (ix4 (0 : Fin 1) j h e) :=
  shapeCast_apply x _ _ _ (by
    rw [Shape.rowMajor_val_three, Shape.rowMajor_val_four]
    show (((0 * 2048 + j.val) * 8 + h.val) * 128 + e.val : ℕ) = (j.val * 8 + h.val) * 128 + e.val
    omega)

variable (m : (ℓ : Loc nD τ sig) → Buf (Elt Ideal) ℓ)

theorem headK_apply (c : Dev nD) (h : Fin 8) (j : Fin 2048) (e : Fin 128) :
    (headsOf (inK m c) (inV m c) h).1 (ix3 j (0 : Fin 1) e) = m ((c : Thread nD τ).loc main_arg2) (ix4 (0 : Fin 1) j h e) := by
  show inK m c ((headRect h).emb (ix3 j (0 : Fin 1) e)) = _
  rw [head_emb, inK_eq]
  exact drop4 _ j h e

theorem headV_apply (c : Dev nD) (h : Fin 8) (j : Fin 2048) (e : Fin 128) :
    (headsOf (inK m c) (inV m c) h).2 (ix3 j (0 : Fin 1) e) = m ((c : Thread nD τ).loc main_arg3) (ix4 (0 : Fin 1) j h e) := by
  show inV m c ((headRect h).emb (ix3 j (0 : Fin 1) e)) = _
  rw [head_emb, inV_eq]
  exact drop4 _ j h e

/-- The partial product of device `c`, from its arguments. -/
theorem part_apply (c : Dev nD) (i : Fin 512) (n : Fin 1024) :
    valAt (part m c) (ix2 i n) = cross 8 (fun t => m ((c : Thread nD τ).loc main_arg0) (ix3 (0 : Fin 1) i t))
      (fun t h e => m ((c : Thread nD τ).loc main_arg1) (ix2 t (finProdFinEquiv (h, e))))
      (fun j h e => m ((c : Thread nD τ).loc main_arg2) (ix4 (0 : Fin 1) j h e))
      (fun j h e => m ((c : Thread nD τ).loc main_arg3) (ix4 (0 : Fin 1) j h e))
      (fun h e => m ((c : Thread nD τ).loc main_arg4) (ix2 (finProdFinEquiv (h, e)) n)) := by
  refine (partVal_apply (inX m c) (inQ m c) (headsOf (inK m c) (inV m c)) (inO m c) i n).trans ?_
  have hx : (fun t : Fin 1024 => (inX m c (ix2 i t) : EReal)) = fun t => m ((c : Thread nD τ).loc main_arg0) (ix3 (0 : Fin 1) i t) := by
    funext t; rw [inX_eq]; exact drop3 _ i t
  have hk : (fun (j : Fin 2048) (h : Fin 8) (e : Fin 128) => ((headsOf (inK m c) (inV m c) h).1 (ix3 j (0 : Fin 1) e) : EReal))
      = fun j h e => m ((c : Thread nD τ).loc main_arg2) (ix4 (0 : Fin 1) j h e) := by
    funext j h e; exact headK_apply m c h j e
  have hv : (fun (j : Fin 2048) (h : Fin 8) (e : Fin 128) => ((headsOf (inK m c) (inV m c) h).2 (ix3 j (0 : Fin 1) e) : EReal))
      = fun j h e => m ((c : Thread nD τ).loc main_arg3) (ix4 (0 : Fin 1) j h e) := by
    funext j h e; exact headV_apply m c h j e
  have hq : inQ m c = m ((c : Thread nD τ).loc main_arg1) := V_main_arg1 m c
  have ho : inO m c = m ((c : Thread nD τ).loc main_arg4) := V_main_arg4 m c
  rw [hx, hk, hv, hq, ho]

/-- Every device's result: the sum over the devices of their partial products. -/
theorem result_apply (c : Dev nD) (i : Fin 512) (n : Fin 1024) :
    valAt (result m c) (ix2 i n) = ∑ d : Dev nD, cross 8 (fun t => m ((d : Thread nD τ).loc main_arg0) (ix3 (0 : Fin 1) i t))
      (fun t h e => m ((d : Thread nD τ).loc main_arg1) (ix2 t (finProdFinEquiv (h, e))))
      (fun j h e => m ((d : Thread nD τ).loc main_arg2) (ix4 (0 : Fin 1) j h e))
      (fun j h e => m ((d : Thread nD τ).loc main_arg3) (ix4 (0 : Fin 1) j h e))
      (fun h e => m ((d : Thread nD τ).loc main_arg4) (ix2 (finProdFinEquiv (h, e)) n)) := by
  rw [result_def, outAt_sum]
  exact Finset.sum_congr rfl fun d _ => part_apply m d i n

end Cert.KernelIdeal.Ring8

end
-- ==== Proof.Ref.Value.lean ====
/-
  The reference over the extended reals, index by index. Its @main is written as a chain of named stages (`res_stages`), each
  stage is read at an index, and `whole_apply` states the whole: the product of all 64 heads with the output weights.
-/
module

public import proofs.«01_k».proof.Proof.Gen.ReferenceIdeal.Run
public import proofs.«01_k».proof.Proof.Math.Head
public import Idealize.ShloMosaic.Lib.ValueIdx
public import Idealize.ShloMosaic.Lib.Pipeline.Value

@[expose] public section

set_option maxRecDepth 16384

noncomputable section

namespace Cert.ReferenceIdeal.Stages

open Idealize.ShloMosaic Idealize.ShloMosaic.TcCoe Idealize.SL.Sem Idealize.ShloMosaic.ValueIdx
open Cert.ReferenceIdeal Cert.ReferenceIdeal.Gen Cert.Softmax

/-! ## The stages -/

section Stages

variable {F : FTy → Type} [FloatOps F]

/-- The queries, one head beside another. -/
def queries (x : FVec F S1x512x1024 .bf16) (wq : FVec F S1024x8192 .bf16) : FVec F S1x512x64x128 .bf16 :=
  shapeCast _ (truncf .bf16 (Host.dotGeneral dot_S1x512x1024_S1024x8192_S1x512x8192_2_0_01_1_n_n none x wq) bitsLt_bf16_f32)
    shapeCasts_S1x512x8192_S1x512x64x128

/-- The scaled scores of a chunk of keys. -/
def scores (q : FVec F S1x512x64x128 .bf16) (k : FVec F S1x1024x64x128 .bf16) : FVec F S1x64x512x1024 .f32 :=
  mulf (extf .f32 (truncf .bf16 (Host.dotGeneral dot_S1x512x64x128_S1x1024x64x128_S1x64x512x1024_3_3_1_1_02_02 none q k)
    bitsLt_bf16_f32) bitsLt_bf16_f32) (broadcastInDim S1x64x512x1024 ![] bcast_S_S1x64x512x1024 (constant S_ .f32 0x3DB504F3#32))

/-- The running maximum after a chunk. -/
def newMax (m : FVec F S1x64x512x1 .f32) (s : FVec F S1x64x512x1024 .f32) : FVec F S1x64x512x1 .f32 :=
  maximumf m (broadcastInDim S1x64x512x1 ![0, 1, 2] bcast_S1x64x512_S1x64x512x1_0_1_2
    (Host.reduce FloatOps.maximumf s (constant S_ .f32 0xFF800000#32) reducesTo_S1x64x512x1024_S1x64x512_d3 h_S_))

/-- The factor that rescales the sums of the chunks before. -/
def factor (m m' : FVec F S1x64x512x1 .f32) : FVec F S1x64x512x1 .f32 := Host.exp (subf m m')

/-- A chunk's weights. -/
def weights (s : FVec F S1x64x512x1024 .f32) (m : FVec F S1x64x512x1 .f32) : FVec F S1x64x512x1024 .f32 :=
  Host.exp (subf s (broadcastInDim S1x64x512x1024 ![0, 1, 2, 3] bcast_S1x64x512x1_S1x64x512x1024_0_1_2_3 m))

/-- The running sum of weights after a chunk. -/
def newSum (l a : FVec F S1x64x512x1 .f32) (p : FVec F S1x64x512x1024 .f32) : FVec F S1x64x512x1 .f32 :=
  addf (mulf l a) (broadcastInDim S1x64x512x1 ![0, 1, 2] bcast_S1x64x512_S1x64x512x1_0_1_2
    (Host.reduceAdd p (constant S_ .f32 0x00000000#32) reducesTo_S1x64x512x1024_S1x64x512_d3 h_S_))

/-- A factor of each row and head, spread over the head's columns. -/
def cols (a : FVec F S1x64x512x1 .f32) : FVec F S1x512x64x128 .f32 :=
  broadcastInDim S1x512x64x128 ![0, 1, 2, 3] bcast_S1x512x64x1_S1x512x64x128_0_1_2_3
    (transpose S1x512x64x1 [0, 2, 1, 3] a transposes_S1x64x512x1_S1x512x64x1_0_2_1_3)

/-- The running weighted sum of the values after a chunk. -/
def newOut (o : FVec F S1x512x64x128 .f32) (a : FVec F S1x64x512x1 .f32) (v : FVec F S1x1024x64x128 .bf16)
    (p : FVec F S1x64x512x1024 .f32) : FVec F S1x512x64x128 .f32 :=
  addf (mulf o (cols a)) (transpose S1x512x64x128 [0, 3, 1, 2]
    (Host.dotGeneral dot_S1x1024x64x128_S1x64x512x1024_S1x64x128x512_1_3_3_2_02_01 none v p) transposes_S1x64x128x512_S1x512x64x128_0_3_1_2)

/-- The two chunks of the keys or of the values. -/
def fst (k : FVec F S1x2048x64x128 .bf16) : FVec F S1x1024x64x128 .bf16 :=
  extractStridedSlice S1x1024x64x128 ![0, 0, 0, 0] k slices_S1x2048x64x128_S1x1024x64x128_0_0_0_0
def snd (k : FVec F S1x2048x64x128 .bf16) : FVec F S1x1024x64x128 .bf16 :=
  extractStridedSlice S1x1024x64x128 ![0, 1024, 0, 0] k slices_S1x2048x64x128_S1x1024x64x128_0_1024_0_0

/-- What the running maximum, the running sum of weights and the running weighted sum start from. -/
def max0 : FVec F S1x64x512x1 .f32 := broadcastInDim S1x64x512x1 ![] bcast_S_S1x64x512x1 (constant S_ .f32 0xFF800000#32)
def sum0 : FVec F S1x64x512x1 .f32 := broadcastInDim S1x64x512x1 ![] bcast_S_S1x64x512x1 (constant S_ .f32 0x00000000#32)
def out0 : FVec F S1x512x64x128 .f32 := broadcastInDim S1x512x64x128 ![] bcast_S_S1x512x64x128 (constant S_ .f32 0x00000000#32)

def max1 (s₁ : FVec F S1x64x512x1024 .f32) : FVec F S1x64x512x1 .f32 := newMax max0 s₁
def max2 (s₁ s₂ : FVec F S1x64x512x1024 .f32) : FVec F S1x64x512x1 .f32 := newMax (max1 s₁) s₂
def sum1 (s₁ : FVec F S1x64x512x1024 .f32) : FVec F S1x64x512x1 .f32 := newSum sum0 (factor max0 (max1 s₁)) (weights s₁ (max1 s₁))
def sum2 (s₁ s₂ : FVec F S1x64x512x1024 .f32) : FVec F S1x64x512x1 .f32 :=
  newSum (sum1 s₁) (factor (max1 s₁) (max2 s₁ s₂)) (weights s₂ (max2 s₁ s₂))
def out1 (s₁ : FVec F S1x64x512x1024 .f32) (v₁ : FVec F S1x1024x64x128 .bf16) : FVec F S1x512x64x128 .f32 :=
  newOut out0 (factor max0 (max1 s₁)) v₁ (weights s₁ (max1 s₁))
def out2 (s₁ s₂ : FVec F S1x64x512x1024 .f32) (v₁ v₂ : FVec F S1x1024x64x128 .bf16) : FVec F S1x512x64x128 .f32 :=
  newOut (out1 s₁ v₁) (factor (max1 s₁) (max2 s₁ s₂)) v₂ (weights s₂ (max2 s₁ s₂))

/-- The heads' outputs. -/
def heads (s₁ s₂ : FVec F S1x64x512x1024 .f32) (v₁ v₂ : FVec F S1x1024x64x128 .bf16) : FVec F S1x512x64x128 .f32 :=
  Host.divf (out2 s₁ s₂ v₁ v₂) (cols (sum2 s₁ s₂))

/-- The whole reference. -/
def whole (x : FVec F S1x512x1024 .bf16) (wq : FVec F S1024x8192 .bf16) (k v : FVec F S1x2048x64x128 .bf16)
    (wo : FVec F S8192x1024 .bf16) : FVec F S1x512x1024 .f32 :=
  Host.dotGeneral dot_S1x512x8192_S8192x1024_S1x512x1024_2_0_01_1_n_n none
    (shapeCast S1x512x8192 (heads (scores (queries x wq) (fst k)) (scores (queries x wq) (snd k)) (fst v) (snd v))
      shapeCasts_S1x512x64x128_S1x512x8192) wo

/-- @main's result is the chain of stages. -/
theorem res_stages (m : (ℓ : Loc nD τ sig) → Buf (Elt F) ℓ) (c : Dev nD) :
    Value.res_out0 m c = whole (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Value.res_out0 Value.res_main_v60
  rfl

end Stages

/-! ## The products at an index -/

/-- The product of the input with the query weights. -/
theorem dotQ_apply (x : FVec Ideal S1x512x1024 .bf16) (wq : FVec Ideal S1024x8192 .bf16) (i : Fin 512) (k : Fin 8192) :
    (Host.dotGeneral dot_S1x512x1024_S1024x8192_S1x512x8192_2_0_01_1_n_n none x wq (ix3 (0 : Fin 1) i k) : EReal)
      = ∑ t : Fin 1024, (x (ix3 (0 : Fin 1) i t) : EReal) * (wq (ix2 t k) : EReal) := by
  simp only [Host.dotGeneral]
  rw [Ideal.dotGeneral_apply, ← Equiv.sum_comp (contrEquiv1 dot_S1x512x1024_S1024x8192_S1x512x8192_2_0_01_1_n_n 1024 rfl rfl).symm]
  refine Finset.sum_congr rfl fun t _ => congrArg₂ (fun a b => (x a : EReal) * (wq b : EReal)) ?_ ?_
  all_goals
    have ht := contrEquiv1_symm_val dot_S1x512x1024_S1024x8192_S1x512x8192_2_0_01_1_n_n 1024 rfl rfl t
    funext a; apply Fin.ext; fin_cases a <;> first | rfl | exact ht

/-- The product of the queries with a chunk of keys. -/
theorem dotK_apply (q : FVec Ideal S1x512x64x128 .bf16) (k : FVec Ideal S1x1024x64x128 .bf16) (h : Fin 64) (i : Fin 512) (j : Fin 1024) :
    (Host.dotGeneral dot_S1x512x64x128_S1x1024x64x128_S1x64x512x1024_3_3_1_1_02_02 none q k (ix4 (0 : Fin 1) h i j) : EReal)
      = ∑ e : Fin 128, (q (ix4 (0 : Fin 1) i h e) : EReal) * (k (ix4 (0 : Fin 1) j h e) : EReal) := by
  simp only [Host.dotGeneral]
  rw [Ideal.dotGeneral_apply, ← Equiv.sum_comp (contrEquiv1 dot_S1x512x64x128_S1x1024x64x128_S1x64x512x1024_3_3_1_1_02_02 128 rfl rfl).symm]
  refine Finset.sum_congr rfl fun t _ => congrArg₂ (fun a b => (q a : EReal) * (k b : EReal)) ?_ ?_
  all_goals
    have ht := contrEquiv1_symm_val dot_S1x512x64x128_S1x1024x64x128_S1x64x512x1024_3_3_1_1_02_02 128 rfl rfl t
    funext a; apply Fin.ext; fin_cases a <;> first | rfl | exact ht

/-- The product of a chunk of values with its weights. -/
theorem dotV_apply (v : FVec Ideal S1x1024x64x128 .bf16) (p : FVec Ideal S1x64x512x1024 .f32) (h : Fin 64) (e : Fin 128) (i : Fin 512) :
    (Host.dotGeneral dot_S1x1024x64x128_S1x64x512x1024_S1x64x128x512_1_3_3_2_02_01 none v p (ix4 (0 : Fin 1) h e i) : EReal)
      = ∑ j : Fin 1024, (v (ix4 (0 : Fin 1) j h e) : EReal) * (p (ix4 (0 : Fin 1) h i j) : EReal) := by
  simp only [Host.dotGeneral]
  rw [Ideal.dotGeneral_apply, ← Equiv.sum_comp (contrEquiv1 dot_S1x1024x64x128_S1x64x512x1024_S1x64x128x512_1_3_3_2_02_01 1024 rfl rfl).symm]
  refine Finset.sum_congr rfl fun t _ => congrArg₂ (fun a b => (v a : EReal) * (p b : EReal)) ?_ ?_
  all_goals
    have ht := contrEquiv1_symm_val dot_S1x1024x64x128_S1x64x512x1024_S1x64x128x512_1_3_3_2_02_01 1024 rfl rfl t
    funext a; apply Fin.ext; fin_cases a <;> first | rfl | exact ht

/-- The product of the heads with the output weights. -/
theorem dotO_apply (o : FVec Ideal S1x512x8192 .f32) (wo : FVec Ideal S8192x1024 .bf16) (i : Fin 512) (n : Fin 1024) :
    (Host.dotGeneral dot_S1x512x8192_S8192x1024_S1x512x1024_2_0_01_1_n_n none o wo (ix3 (0 : Fin 1) i n) : EReal)
      = ∑ k : Fin 8192, (o (ix3 (0 : Fin 1) i k) : EReal) * (wo (ix2 k n) : EReal) := by
  simp only [Host.dotGeneral]
  rw [Ideal.dotGeneral_apply, ← Equiv.sum_comp (contrEquiv1 dot_S1x512x8192_S8192x1024_S1x512x1024_2_0_01_1_n_n 8192 rfl rfl).symm]
  refine Finset.sum_congr rfl fun t _ => congrArg₂ (fun a b => (o a : EReal) * (wo b : EReal)) ?_ ?_
  all_goals
    have ht := contrEquiv1_symm_val dot_S1x512x8192_S8192x1024_S1x512x1024_2_0_01_1_n_n 8192 rfl rfl t
    funext a; apply Fin.ext; fin_cases a <;> first | rfl | exact ht

/-! ## The stages at an index -/

/-- Column `e` of head `h`. -/
abbrev col (h : Fin 64) (e : Fin 128) : Fin 8192 := finProdFinEquiv (m := 64) (n := 128) (h, e)

theorem queries_apply (x : FVec Ideal S1x512x1024 .bf16) (wq : FVec Ideal S1024x8192 .bf16) (i : Fin 512) (h : Fin 64) (e : Fin 128) :
    (queries x wq (ix4 (0 : Fin 1) i h e) : EReal) = ∑ t : Fin 1024, (x (ix3 (0 : Fin 1) i t) : EReal) * (wq (ix2 t (col h e)) : EReal) := by
  unfold queries
  refine Eq.trans (shapeCast_apply _ _ _ (ix3 (0 : Fin 1) i (col h e)) ?_) (dotQ_apply x wq i (col h e))
  rw [Shape.rowMajor_val_three, Shape.rowMajor_val_four]
  show (0 * 512 + i.val) * 8192 + (col h e).val = ((0 * 512 + i.val) * 64 + h.val) * 128 + e.val
  rw [groups_val]; omega

theorem scores_apply (q : FVec Ideal S1x512x64x128 .bf16) (k : FVec Ideal S1x1024x64x128 .bf16) (h : Fin 64) (i : Fin 512) (j : Fin 1024) :
    (scores q k (ix4 (0 : Fin 1) h i j) : EReal)
      = (∑ e : Fin 128, (q (ix4 (0 : Fin 1) i h e) : EReal) * (k (ix4 (0 : Fin 1) j h e) : EReal)) * scale :=
  congrArg (· * scale) (dotK_apply q k h i j)

theorem reduces_last : S1x64x512x1024.Reduces [3] S1x64x512 := by decide

theorem lift_last (h : Fin 64) (i : Fin 512) (j : Fin 1024) : reduces_last.lift (ix3 (0 : Fin 1) h i) j = ix4 (0 : Fin 1) h i j := by
  funext a; apply Fin.ext; fin_cases a <;> rfl

/-- A row's maximum. -/
theorem reduceMax_apply (s : FVec Ideal S1x64x512x1024 .f32) (h : Fin 64) (i : Fin 512) :
    Host.reduce FloatOps.maximumf s (constant S_ .f32 0xFF800000#32) reducesTo_S1x64x512x1024_S1x64x512_d3 h_S_ (ix3 (0 : Fin 1) h i)
      = Finset.univ.sup fun j : Fin 1024 => (s (ix4 (0 : Fin 1) h i j) : EReal) := by
  rw [Host.reduce_eq_fold_single _ _ _ _ reduces_last, constant_apply, ofBits_negInf]
  exact Finset.fold_congr fun k _ => congrArg s (lift_last h i k)

/-- A row's sum. -/
theorem reduceAdd_apply (p : FVec Ideal S1x64x512x1024 .f32) (h : Fin 64) (i : Fin 512) :
    Host.reduceAdd p (constant S_ .f32 0x00000000#32) reducesTo_S1x64x512x1024_S1x64x512_d3 h_S_ (ix3 (0 : Fin 1) h i)
      = ∑ j : Fin 1024, (p (ix4 (0 : Fin 1) h i j) : EReal) := by
  unfold Host.reduceAdd
  refine Eq.trans (show _ = Ideal.hostReduceAdd reducesTo_S1x64x512x1024_S1x64x512_d3 p
    (constant (F := Ideal) S_ .f32 0x00000000#32 (Shape.Idx.first h_S_)) (ix3 (0 : Fin 1) h i) from rfl) ?_
  rw [Ideal.hostReduceAdd_single _ reduces_last, constant_apply, Ideal.ofBits_zero_f32, zero_add]
  exact Finset.sum_congr rfl fun k _ => congrArg p (lift_last h i k)

/-- A row's number with its axis of size one. -/
theorem keep_apply (f : FVec Ideal S1x64x512 .f32) (h : Fin 64) (i : Fin 512) :
    broadcastInDim S1x64x512x1 ![0, 1, 2] bcast_S1x64x512_S1x64x512x1_0_1_2 f (ix4 (0 : Fin 1) h i (0 : Fin 1)) = f (ix3 (0 : Fin 1) h i) :=
  broadcastInDim_apply _ _ _ _ _ fun a => by fin_cases a <;> rfl

theorem newMax_apply (m : FVec Ideal S1x64x512x1 .f32) (s : FVec Ideal S1x64x512x1024 .f32) (h : Fin 64) (i : Fin 512) :
    (newMax m s (ix4 (0 : Fin 1) h i (0 : Fin 1)) : EReal)
      = max (m (ix4 (0 : Fin 1) h i (0 : Fin 1)) : EReal) (Finset.univ.sup fun j : Fin 1024 => (s (ix4 (0 : Fin 1) h i j) : EReal)) := by
  exact congrArg (max (m (ix4 (0 : Fin 1) h i (0 : Fin 1)) : EReal)) ((keep_apply _ h i).trans (reduceMax_apply s h i))

theorem factor_apply (m m' : FVec Ideal S1x64x512x1 .f32) (j : S1x64x512x1.Idx) :
    (factor m m' j : EReal) = Ideal.exp ((m j : EReal) - (m' j : EReal)) := rfl

theorem weights_apply (s : FVec Ideal S1x64x512x1024 .f32) (m : FVec Ideal S1x64x512x1 .f32) (h : Fin 64) (i : Fin 512) (j : Fin 1024) :
    (weights s m (ix4 (0 : Fin 1) h i j) : EReal)
      = Ideal.exp ((s (ix4 (0 : Fin 1) h i j) : EReal) - (m (ix4 (0 : Fin 1) h i (0 : Fin 1)) : EReal)) := by
  refine congrArg (fun z : EReal => Ideal.exp ((s (ix4 (0 : Fin 1) h i j) : EReal) - z)) ?_
  exact broadcastInDim_apply _ _ _ _ _ fun a => by fin_cases a <;> rfl

theorem newSum_apply (l a : FVec Ideal S1x64x512x1 .f32) (p : FVec Ideal S1x64x512x1024 .f32) (h : Fin 64) (i : Fin 512) :
    (newSum l a p (ix4 (0 : Fin 1) h i (0 : Fin 1)) : EReal)
      = (l (ix4 (0 : Fin 1) h i (0 : Fin 1)) : EReal) * (a (ix4 (0 : Fin 1) h i (0 : Fin 1)) : EReal)
        + ∑ j : Fin 1024, (p (ix4 (0 : Fin 1) h i j) : EReal) := by
  exact congrArg (fun z : EReal => (l (ix4 (0 : Fin 1) h i (0 : Fin 1)) : EReal) * (a (ix4 (0 : Fin 1) h i (0 : Fin 1)) : EReal) + z)
    ((keep_apply _ h i).trans (reduceAdd_apply p h i))

theorem cols_apply (a : FVec Ideal S1x64x512x1 .f32) (i : Fin 512) (h : Fin 64) (e : Fin 128) :
    cols a (ix4 (0 : Fin 1) i h e) = a (ix4 (0 : Fin 1) h i (0 : Fin 1)) := by
  unfold cols
  rw [broadcastInDim_apply _ _ _ _ (ix4 (0 : Fin 1) i h (0 : Fin 1)) fun a => by fin_cases a <;> rfl]
  exact transpose_apply _ _ _ _ _ fun b => by fin_cases b <;> rfl

theorem newOut_apply (o : FVec Ideal S1x512x64x128 .f32) (a : FVec Ideal S1x64x512x1 .f32) (v : FVec Ideal S1x1024x64x128 .bf16)
    (p : FVec Ideal S1x64x512x1024 .f32) (i : Fin 512) (h : Fin 64) (e : Fin 128) :
    (newOut o a v p (ix4 (0 : Fin 1) i h e) : EReal)
      = (o (ix4 (0 : Fin 1) i h e) : EReal) * (a (ix4 (0 : Fin 1) h i (0 : Fin 1)) : EReal)
        + ∑ j : Fin 1024, (v (ix4 (0 : Fin 1) j h e) : EReal) * (p (ix4 (0 : Fin 1) h i j) : EReal) := by
  refine congrArg₂ (fun y z : EReal => (o (ix4 (0 : Fin 1) i h e) : EReal) * y + z) (cols_apply a i h e) ?_
  refine Eq.trans (transpose_apply _ _ _ _ (ix4 (0 : Fin 1) h e i) fun b => by fin_cases b <;> rfl) (dotV_apply v p h e i)

theorem fst_apply (k : FVec Ideal S1x2048x64x128 .bf16) (j : Fin 1024) (h : Fin 64) (e : Fin 128) :
    fst k (ix4 (0 : Fin 1) j h e) = k (ix4 (0 : Fin 1) (Fin.castAdd 1024 j) h e) :=
  extractStridedSlice_apply _ _ _ _ _ fun a => by
    fin_cases a
    · rfl
    · show j.val = 0 + j.val; omega
    · show h.val = 0 + h.val; omega
    · show e.val = 0 + e.val; omega

theorem snd_apply (k : FVec Ideal S1x2048x64x128 .bf16) (j : Fin 1024) (h : Fin 64) (e : Fin 128) :
    snd k (ix4 (0 : Fin 1) j h e) = k (ix4 (0 : Fin 1) (Fin.natAdd 1024 j) h e) :=
  extractStridedSlice_apply _ _ _ _ _ fun a => by
    fin_cases a
    · rfl
    · rfl
    · show h.val = 0 + h.val; omega
    · show e.val = 0 + e.val; omega

/-- A head's output at a row and a column: the online mean over the two chunks. -/
theorem heads_apply (s₁ s₂ : FVec Ideal S1x64x512x1024 .f32) (v₁ v₂ : FVec Ideal S1x1024x64x128 .bf16) (i : Fin 512) (h : Fin 64) (e : Fin 128) :
    (heads s₁ s₂ v₁ v₂ (ix4 (0 : Fin 1) i h e) : EReal)
      = online (fun j : Fin 1024 => (s₁ (ix4 (0 : Fin 1) h i j) : EReal)) (fun j => (s₂ (ix4 (0 : Fin 1) h i j) : EReal))
        (fun j => (v₁ (ix4 (0 : Fin 1) j h e) : EReal)) (fun j => (v₂ (ix4 (0 : Fin 1) j h e) : EReal)) := by
  have hm0 : ((max0 : FVec Ideal S1x64x512x1 .f32) (ix4 (0 : Fin 1) h i (0 : Fin 1)) : EReal) = ⊥ := ofBits_negInf
  have hl0 : ((sum0 : FVec Ideal S1x64x512x1 .f32) (ix4 (0 : Fin 1) h i (0 : Fin 1)) : EReal) = 0 := Ideal.ofBits_zero_f32
  have ho0 : ((out0 : FVec Ideal S1x512x64x128 .f32) (ix4 (0 : Fin 1) i h e) : EReal) = 0 := Ideal.ofBits_zero_f32
  obtain ⟨M₁, hM₁⟩ : ∃ M, M = max ⊥ (Finset.univ.sup fun j : Fin 1024 => (s₁ (ix4 (0 : Fin 1) h i j) : EReal)) := ⟨_, rfl⟩
  obtain ⟨M₂, hM₂⟩ : ∃ M, M = max M₁ (Finset.univ.sup fun j : Fin 1024 => (s₂ (ix4 (0 : Fin 1) h i j) : EReal)) := ⟨_, rfl⟩
  have hm1 : (max1 s₁ (ix4 (0 : Fin 1) h i (0 : Fin 1)) : EReal) = M₁ := by unfold max1; rw [newMax_apply, hm0, hM₁]
  have hm2 : (max2 s₁ s₂ (ix4 (0 : Fin 1) h i (0 : Fin 1)) : EReal) = M₂ := by unfold max2; rw [newMax_apply, hm1, hM₂]
  have ha1 : (factor max0 (max1 s₁) (ix4 (0 : Fin 1) h i (0 : Fin 1)) : EReal) = Ideal.exp (⊥ - M₁) := by rw [factor_apply, hm0, hm1]
  have ha2 : (factor (max1 s₁) (max2 s₁ s₂) (ix4 (0 : Fin 1) h i (0 : Fin 1)) : EReal) = Ideal.exp (M₁ - M₂) := by rw [factor_apply, hm1, hm2]
  have hl1 : (sum1 s₁ (ix4 (0 : Fin 1) h i (0 : Fin 1)) : EReal)
      = 0 * Ideal.exp (⊥ - M₁) + ∑ j : Fin 1024, Ideal.exp ((s₁ (ix4 (0 : Fin 1) h i j) : EReal) - M₁) := by
    unfold sum1; rw [newSum_apply, ha1, hl0]; simp only [weights_apply, hm1]
  have ho1 : (out1 s₁ v₁ (ix4 (0 : Fin 1) i h e) : EReal) = 0 * Ideal.exp (⊥ - M₁)
      + ∑ j : Fin 1024, (v₁ (ix4 (0 : Fin 1) j h e) : EReal) * Ideal.exp ((s₁ (ix4 (0 : Fin 1) h i j) : EReal) - M₁) := by
    unfold out1; rw [newOut_apply, ha1, ho0]; simp only [weights_apply, hm1]
  have hl2 : (sum2 s₁ s₂ (ix4 (0 : Fin 1) h i (0 : Fin 1)) : EReal)
      = (0 * Ideal.exp (⊥ - M₁) + ∑ j : Fin 1024, Ideal.exp ((s₁ (ix4 (0 : Fin 1) h i j) : EReal) - M₁)) * Ideal.exp (M₁ - M₂)
        + ∑ j : Fin 1024, Ideal.exp ((s₂ (ix4 (0 : Fin 1) h i j) : EReal) - M₂) := by
    unfold sum2; rw [newSum_apply, ha2, hl1]; simp only [weights_apply, hm2]
  have ho2 : (out2 s₁ s₂ v₁ v₂ (ix4 (0 : Fin 1) i h e) : EReal) = (0 * Ideal.exp (⊥ - M₁)
      + ∑ j : Fin 1024, (v₁ (ix4 (0 : Fin 1) j h e) : EReal) * Ideal.exp ((s₁ (ix4 (0 : Fin 1) h i j) : EReal) - M₁)) * Ideal.exp (M₁ - M₂)
      + ∑ j : Fin 1024, (v₂ (ix4 (0 : Fin 1) j h e) : EReal) * Ideal.exp ((s₂ (ix4 (0 : Fin 1) h i j) : EReal) - M₂) := by
    unfold out2; rw [newOut_apply, ha2, ho1]; simp only [weights_apply, hm2]
  subst hM₂ hM₁
  exact congrArg₂ Ideal.div ho2 ((cols_apply _ i h e).trans hl2)

/-! ## The whole reference at an index -/

/-- The reference at a row and a column: all 64 heads' product with the output weights. -/
theorem whole_apply (x : FVec Ideal S1x512x1024 .bf16) (wq : FVec Ideal S1024x8192 .bf16) (k v : FVec Ideal S1x2048x64x128 .bf16)
    (wo : FVec Ideal S8192x1024 .bf16) (i : Fin 512) (n : Fin 1024) :
    (whole x wq k v wo (ix3 (0 : Fin 1) i n) : EReal) = cross 64 (fun t => (x (ix3 (0 : Fin 1) i t) : EReal))
      (fun t h e => (wq (ix2 t (col h e)) : EReal)) (fun j h e => (k (ix4 (0 : Fin 1) j h e) : EReal))
      (fun j h e => (v (ix4 (0 : Fin 1) j h e) : EReal)) (fun h e => (wo (ix2 (col h e) n) : EReal)) := by
  unfold whole cross
  refine (dotO_apply _ wo i n).trans ((sum_groups 64 128 _).trans ?_)
  refine Finset.sum_congr rfl fun h _ => Finset.sum_congr rfl fun e _ => congrArg (· * (wo (ix2 (col h e) n) : EReal)) ?_
  refine Eq.trans (shapeCast_apply _ _ _ (ix4 (0 : Fin 1) i h e) ?_) ?_
  · rw [Shape.rowMajor_val_three, Shape.rowMajor_val_four]
    show ((0 * 512 + i.val) * 64 + h.val) * 128 + e.val = (0 * 512 + i.val) * 8192 + (col h e).val
    rw [groups_val]; omega
  refine (heads_apply _ _ _ _ i h e).trans ?_
  simp only [scores_apply, queries_apply, fst_apply, snd_apply]
  exact online_eq (n := 1024) (fun j => (∑ e', (∑ t, (x (ix3 (0 : Fin 1) i t) : EReal) * (wq (ix2 t (col h e')) : EReal))
    * (k (ix4 (0 : Fin 1) j h e') : EReal)) * scale) (fun j => (v (ix4 (0 : Fin 1) j h e) : EReal))

end Cert.ReferenceIdeal.Stages

end
-- ==== Proof.KI.Whole.lean ====
/-
  The kernel's result is the reference's: the devices' arguments are the blocks of the reference's, so the sum over the devices of
  eight heads each is the product of all 64 heads.
-/
module

public import proofs.«01_k».proof.Defs
public import proofs.«01_k».proof.Proof.KI.Entry
public import proofs.«01_k».proof.Proof.KI.Launch
public import proofs.«01_k».proof.Proof.Ref.Value

@[expose] public section

set_option maxRecDepth 16384

noncomputable section

namespace Cert.Whole

open Idealize.ShloMosaic Idealize.ShloMosaic.TcCoe Idealize.SL.Sem Idealize.ShloMosaic.ValueIdx
open Cert.KernelIdeal Cert.KernelIdeal.Gen Cert.Softmax
open Cert.ReferenceIdeal.Stages (col whole whole_apply res_stages)

/-! ## Blocks at an index -/

/-- Head `h` of device `d`, among all the heads. -/
abbrev hd (d h : Fin 8) : Fin 64 := finProdFinEquiv (m := 8) (n := 8) (d, h)

theorem hd_val (d h : Fin 8) : (hd d h).val = 8 * d.val + h.val := groups_val d h

/-- Column `e` of head `h` on device `d` is column `e` of that head among all. -/
theorem col_val (d h : Fin 8) (e : Fin 128) :
    (col (hd d h) e).val = d.val * 1024 + (finProdFinEquiv (m := 8) (n := 128) (h, e)).val := by
  have h1 : (col (hd d h) e).val = 128 * (hd d h).val + e.val := groups_val (hd d h) e
  have h2 : (finProdFinEquiv (m := 8) (n := 128) (h, e)).val = 128 * h.val + e.val := groups_val h e
  rw [h1, h2, hd_val]
  omega

/-- A block of the query weights. -/
theorem block_wq (w : Buf (Elt Ideal) (((0 : Dev Cert.ReferenceIdeal.nD).tc : Thread Cert.ReferenceIdeal.nD Cert.ReferenceIdeal.τ).loc Cert.ReferenceIdeal.main_arg1))
    (d : Dev nD) (t : Fin 1024) (h : Fin 8) (e : Fin 128) :
    (Layout.block ⟨2, ![1024, 1024]⟩ ⟨2, ![1024, 8192]⟩ 1 8 d w) (ix2 t (finProdFinEquiv (h, e))) = w (ix2 t (col (hd d h) e)) := by
  have ht := col_val d h e
  show w _ = w _
  refine congrArg w ?_
  funext a
  apply Fin.ext
  rw [Layout.Tiles.idx_val]
  fin_cases a
  · rfl
  · exact ht.symm

/-- A block of the keys, or of the values. -/
theorem block_kv (w : Buf (Elt Ideal) (((0 : Dev Cert.ReferenceIdeal.nD).tc : Thread Cert.ReferenceIdeal.nD Cert.ReferenceIdeal.τ).loc Cert.ReferenceIdeal.main_arg2))
    (d : Dev nD) (j : Fin 2048) (h : Fin 8) (e : Fin 128) :
    (Layout.block ⟨4, ![1, 2048, 8, 128]⟩ ⟨4, ![1, 2048, 64, 128]⟩ 2 8 d w) (ix4 (0 : Fin 1) j h e) = w (ix4 (0 : Fin 1) j (hd d h) e) := by
  have ht : d.val * 8 + h.val = (hd d h).val := by rw [hd_val]; omega
  show w _ = w _
  refine congrArg w ?_
  funext a
  apply Fin.ext
  rw [Layout.Tiles.idx_val]
  fin_cases a
  · rfl
  · rfl
  · exact ht
  · rfl

/-- A block of the output weights. -/
theorem block_wo (w : Buf (Elt Ideal) (((0 : Dev Cert.ReferenceIdeal.nD).tc : Thread Cert.ReferenceIdeal.nD Cert.ReferenceIdeal.τ).loc Cert.ReferenceIdeal.main_arg4))
    (d : Dev nD) (h : Fin 8) (e : Fin 128) (n : Fin 1024) :
    (Layout.block ⟨2, ![1024, 1024]⟩ ⟨2, ![8192, 1024]⟩ 0 8 d w) (ix2 (finProdFinEquiv (h, e)) n) = w (ix2 (col (hd d h) e) n) := by
  have ht := col_val d h e
  show w _ = w _
  refine congrArg w ?_
  funext a
  apply Fin.ext
  rw [Layout.Tiles.idx_val]
  fin_cases a
  · exact ht.symm
  · rfl

/-- A result with the leading unit axis put back. -/
theorem lift3 (x : FVec Ideal S512x1024 .f32) (i : Fin 512) (n : Fin 1024) :
    shapeCast S1x512x1024 x shapeCasts_S512x1024_S1x512x1024 (ix3 (0 : Fin 1) i n) = x (ix2 i n) :=
  shapeCast_apply x _ _ _ (by
    rw [Shape.rowMajor_val_two, Shape.rowMajor_val_three]
    show (i.val * 1024 + n.val : ℕ) = (0 * 512 + i.val) * 1024 + n.val
    omega)

/-! ## The results are equal -/

variable (m : (ℓ : Loc nD τ sig) → Buf (Elt Ideal) ℓ)
  (m' : (ℓ : Loc Cert.ReferenceIdeal.nD Cert.ReferenceIdeal.τ Cert.ReferenceIdeal.sig) → Buf (Elt Ideal) ℓ)

/-- The reference's argument, as its one device holds it. -/
abbrev given (b : Ref Cert.ReferenceIdeal.sig .tc) :=
  m' (((0 : Dev Cert.ReferenceIdeal.nD).tc : Thread Cert.ReferenceIdeal.nD Cert.ReferenceIdeal.τ).loc b)

/-- Every device holds the activations whole, and its block of the weights, the keys and the values. -/
def Dealt : Prop := ∀ d : Dev nD,
  m ((d : Thread nD τ).loc main_arg0) = given m' Cert.ReferenceIdeal.main_arg0
  ∧ m ((d : Thread nD τ).loc main_arg1) = Layout.block ⟨2, ![1024, 1024]⟩ ⟨2, ![1024, 8192]⟩ 1 8 d (given m' Cert.ReferenceIdeal.main_arg1)
  ∧ m ((d : Thread nD τ).loc main_arg2) = Layout.block ⟨4, ![1, 2048, 8, 128]⟩ ⟨4, ![1, 2048, 64, 128]⟩ 2 8 d (given m' Cert.ReferenceIdeal.main_arg2)
  ∧ m ((d : Thread nD τ).loc main_arg3) = Layout.block ⟨4, ![1, 2048, 8, 128]⟩ ⟨4, ![1, 2048, 64, 128]⟩ 2 8 d (given m' Cert.ReferenceIdeal.main_arg3)
  ∧ m ((d : Thread nD τ).loc main_arg4) = Layout.block ⟨2, ![1024, 1024]⟩ ⟨2, ![8192, 1024]⟩ 0 8 d (given m' Cert.ReferenceIdeal.main_arg4)

/-- A device's eight heads, in the reference's arguments. -/
theorem heads_eq (hd' : Dealt m m') (d : Dev nD) (i : Fin 512) (n : Fin 1024) :
    cross 8 (fun t => m ((d : Thread nD τ).loc main_arg0) (ix3 (0 : Fin 1) i t))
      (fun t h e => m ((d : Thread nD τ).loc main_arg1) (ix2 t (finProdFinEquiv (h, e))))
      (fun j h e => m ((d : Thread nD τ).loc main_arg2) (ix4 (0 : Fin 1) j h e))
      (fun j h e => m ((d : Thread nD τ).loc main_arg3) (ix4 (0 : Fin 1) j h e))
      (fun h e => m ((d : Thread nD τ).loc main_arg4) (ix2 (finProdFinEquiv (h, e)) n))
    = cross 8 (fun t => given m' Cert.ReferenceIdeal.main_arg0 (ix3 (0 : Fin 1) i t))
      (fun t h e => given m' Cert.ReferenceIdeal.main_arg1 (ix2 t (col (hd d h) e)))
      (fun j h e => given m' Cert.ReferenceIdeal.main_arg2 (ix4 (0 : Fin 1) j (hd d h) e))
      (fun j h e => given m' Cert.ReferenceIdeal.main_arg3 (ix4 (0 : Fin 1) j (hd d h) e))
      (fun h e => given m' Cert.ReferenceIdeal.main_arg4 (ix2 (col (hd d h) e) n)) := by
  obtain ⟨h0, h1, h2, h3, h4⟩ := hd' d
  rw [h0, h1, h2, h3, h4]
  have e1 : (fun (t : Fin 1024) (h : Fin 8) (e : Fin 128) =>
      ((Layout.block ⟨2, ![1024, 1024]⟩ ⟨2, ![1024, 8192]⟩ 1 8 d (given m' Cert.ReferenceIdeal.main_arg1)) (ix2 t (finProdFinEquiv (h, e))) : EReal))
      = fun t h e => given m' Cert.ReferenceIdeal.main_arg1 (ix2 t (col (hd d h) e)) := by
    funext t h e; exact block_wq _ d t h e
  have e2 : (fun (j : Fin 2048) (h : Fin 8) (e : Fin 128) =>
      ((Layout.block ⟨4, ![1, 2048, 8, 128]⟩ ⟨4, ![1, 2048, 64, 128]⟩ 2 8 d (given m' Cert.ReferenceIdeal.main_arg2)) (ix4 (0 : Fin 1) j h e) : EReal))
      = fun j h e => given m' Cert.ReferenceIdeal.main_arg2 (ix4 (0 : Fin 1) j (hd d h) e) := by
    funext j h e; exact block_kv _ d j h e
  have e3 : (fun (j : Fin 2048) (h : Fin 8) (e : Fin 128) =>
      ((Layout.block ⟨4, ![1, 2048, 8, 128]⟩ ⟨4, ![1, 2048, 64, 128]⟩ 2 8 d (given m' Cert.ReferenceIdeal.main_arg3)) (ix4 (0 : Fin 1) j h e) : EReal))
      = fun j h e => given m' Cert.ReferenceIdeal.main_arg3 (ix4 (0 : Fin 1) j (hd d h) e) := by
    funext j h e; exact block_kv _ d j h e
  have e4 : (fun (h : Fin 8) (e : Fin 128) =>
      ((Layout.block ⟨2, ![1024, 1024]⟩ ⟨2, ![8192, 1024]⟩ 0 8 d (given m' Cert.ReferenceIdeal.main_arg4)) (ix2 (finProdFinEquiv (h, e)) n) : EReal))
      = fun h e => given m' Cert.ReferenceIdeal.main_arg4 (ix2 (col (hd d h) e) n) := by
    funext h e; exact block_wo _ d h e n
  rw [e1, e2, e3, e4]

/-- The kernel's result on any device is the reference's. -/
theorem result_eq (hd' : Dealt m m') (c : Dev nD) :
    shapeCast S1x512x1024 (Ring8.result m c) shapeCasts_S512x1024_S1x512x1024 = Cert.ReferenceIdeal.Value.res_out0 m' 0 := by
  rw [res_stages]
  funext p
  obtain ⟨i, n, rfl⟩ : ∃ (i : Fin 512) (n : Fin 1024), p = ix3 (0 : Fin 1) i n :=
    ⟨p 1, p 2, (eq_ix3 p).trans (congrArg (fun z : Fin 1 => (ix3 z (p 1) (p 2) : S1x512x1024.Idx)) (Subsingleton.elim (α := Fin 1) (p 0) 0))⟩
  refine (lift3 (Ring8.result m c) i n).trans ?_
  refine Eq.trans ?_ (whole_apply _ _ _ _ _ i n).symm
  refine (Ring8.result_apply m c i n).trans ?_
  refine Eq.trans ?_ (cross_split 8 8 _ _ _ _ _).symm
  exact Finset.sum_congr rfl fun d _ => heads_eq m m' hd' d i n

end Cert.Whole

end
-- ==== Proof.lean ====
/-
  The certificate's proof: each claim of Defs.lean from the modules under Proof/.

  Both readings of the kernel (its words, and its extended reals) have one proof, in Proof/K and Proof/KI: one step of the ring
  at a symbolic device, the fourteen steps as one induction, the launch, and the run of the whole program with the contents of
  the result on every device. The frames are that run with the result dropped.
  Proof/Math and Proof/Ref say what the values are over the extended reals; Proof/KI/Whole puts the two programs' side by side.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.K.Launch
public import proofs.«01_k».proof.Proof.KI.Launch
public import proofs.«01_k».proof.Proof.KI.Whole
public import Idealize.ShloMosaic.Adequacy
public import Idealize.ShloMosaic.Init

@[expose] public section

noncomputable section

namespace Cert.Proof

open Idealize.ShloMosaic Idealize.SL.Sem

/-- The kernel over words ends on every device, its arguments as given and every semaphore at zero. -/
theorem frame_kernel : Cert.quiescent_Kernel (hKernel := Cert.Kernel.Gen.facts) := fun m ρ _ =>
  (θ_run _ _ _).mono (fun _ h => ⟨fun c => (h.1 c).2, h.2⟩) (Cert.Kernel.Ring8.run_result m ρ)

/-- So does the kernel over the extended reals. -/
theorem frame_ideal : Cert.quiescent_KernelIdeal (hKernelIdeal := Cert.KernelIdeal.Gen.facts) := fun m ρ _ =>
  (θ_run _ _ _).mono (fun _ h => ⟨fun c => (h.1 c).2, h.2⟩) (Cert.KernelIdeal.Ring8.run_result m ρ)

/-- And the reference. -/
theorem frame_reference : Cert.quiescent_ReferenceIdeal (hReferenceIdeal := Cert.ReferenceIdeal.Gen.facts) := fun m ρ _ =>
  (θ_run _ _ _).mono (fun r h => ⟨fun c => (h c).2, sem_eq_zero_of_no_sems (by decide) r.2⟩) (Cert.ReferenceIdeal.Value.run m ρ)

/-- On arguments that are the blocks of the reference's, every device of the kernel ends with the reference's whole result. -/
theorem algebraic : Cert.algebraic_KernelIdeal_ReferenceIdeal (hKernelIdeal := Cert.KernelIdeal.Gen.facts)
    (hReferenceIdeal := Cert.ReferenceIdeal.Gen.facts) := fun m g m' g' _ hd =>
  ⟨Cert.ReferenceIdeal.Value.res_out0 m' 0,
    (θ_run _ _ _).mono (fun _ h c => ⟨(h.1 c).1.trans (Cert.Whole.result_eq m m' hd c), (h.1 c).2⟩)
      (Cert.KernelIdeal.Ring8.run_result m g),
    (θ_run _ _ _).mono (fun _ h => h 0) (Cert.ReferenceIdeal.Value.run m' g')⟩

/-- All the claims. -/
theorem claim : Cert.Claim := ⟨Cert.Kernel.Gen.facts, Cert.KernelIdeal.Gen.facts, Cert.ReferenceIdeal.Gen.facts,
  frame_kernel, frame_ideal, frame_reference, trivial, algebraic⟩

end Cert.Proof

end
